-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S2048x8192 : Shape := ⟨2, ![2048, 8192]⟩
abbrev S16384x2048 : Shape := ⟨2, ![16384, 2048]⟩
abbrev S16384x1 : Shape := ⟨2, ![16384, 1]⟩
abbrev S16384x4096 : Shape := ⟨2, ![16384, 4096]⟩
abbrev S512x2048 : Shape := ⟨2, ![512, 2048]⟩
abbrev S2048x512 : Shape := ⟨2, ![2048, 512]⟩
abbrev S512x1 : Shape := ⟨2, ![512, 1]⟩
abbrev S512x4096 : Shape := ⟨2, ![512, 4096]⟩
abbrev S512x512 : Shape := ⟨2, ![512, 512]⟩
abbrev S512 : Shape := ⟨1, ![512]⟩

abbrev nBuf : Space → Nat
  | .hbm => 7
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S16384x2048, .f32⟩
  | .hbm, ⟨3, _⟩ => ⟨S2048x8192, .bf16⟩
  | .hbm, ⟨4, _⟩ => ⟨S16384x1, .f32⟩
  | .hbm, ⟨5, _⟩ => ⟨S16384x4096, .fp8e4m3⟩
  | .hbm, ⟨6, _⟩ => ⟨S16384x1, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x1, .f32⟩
  | .local _ .vmem, ⟨7, _⟩ => ⟨S512x1, .f32⟩
  | .local _ .vmem, ⟨8, _⟩ => ⟨S512x4096, .fp8e4m3⟩
  | .local _ .vmem, ⟨9, _⟩ => ⟨S512x4096, .fp8e4m3⟩
  | .local _ .vmem, ⟨10, _⟩ => ⟨S512x1, .f32⟩
  | .local _ .vmem, ⟨11, _⟩ => ⟨S512x1, .f32⟩
  | .local _ .vmem, ⟨12, _⟩ => ⟨S512x2048, .bf16⟩
  | .local _ .vmem, ⟨13, _⟩ => ⟨S512x4096, .f32⟩
  | .local _ .vmem, ⟨14, _⟩ => ⟨S512x1, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c512_i32 : BitVec 32 := 512#32
  let v13 : BitVec 32 := Scalar.muli arg1 c512_i32
  v13
def k0_off1 (i : grid0.Coords) : Fin 2 → Nat :=
  let c0_7 : Index := 0#32
  let arg1 : BitVec 32 := BitVec.ofNat 32 (i 1).val
  let c512_i32 : BitVec 32 := 512#32
  let v13 : BitVec 32 := Scalar.muli arg1 c512_i32
  let v14 : BitVec 32 := v13
  let v15 : Index := Scalar.indexCast v14
  ![0, v15.toNat]
def k0_cond4 (i : grid0.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_13 : BitVec 32 := 0#32
  let v30 : BitVec 1 := Scalar.cmpi .ne v29 c0_i32_13
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S4x4096x2048 : Shape := ⟨3, ![4, 4096, 2048]⟩
abbrev S2048x8192 : Shape := ⟨2, ![2048, 8192]⟩
abbrev S4x4096x8192 : Shape := ⟨3, ![4, 4096, 8192]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S254 : Shape := ⟨1, ![254]⟩
abbrev S1x1x254 : Shape := ⟨3, ![1, 1, 254]⟩
abbrev S4x4096x254 : Shape := ⟨3, ![4, 4096, 254]⟩
abbrev S16384x1 : Shape := ⟨2, ![16384, 1]⟩
abbrev S16384x4096 : Shape := ⟨2, ![16384, 4096]⟩

abbrev nBuf : Space → Nat
  | .hbm => 103
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x8192, .f32⟩
  | .hbm, ⟨2, _⟩ => ⟨S4x4096x2048, .bf16⟩
  | .hbm, ⟨3, _⟩ => ⟨S2048x8192, .bf16⟩
  | .hbm, ⟨4, _⟩ => ⟨S4x4096x8192, .f32⟩
  | .hbm, ⟨5, _⟩ => ⟨S4x4096x4096, .f32⟩
  | .hbm, ⟨6, _⟩ => ⟨S4x4096x4096, .f32⟩
  | .hbm, ⟨7, _⟩ => ⟨S4x4096x4096, .f32⟩
  | .hbm, ⟨8, _⟩ => ⟨S4x4096x4096, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S254, .i32⟩
  | .hbm, ⟨25, _⟩ => ⟨S_, .i32⟩
  | .hbm, ⟨26, _⟩ => ⟨S254, .i32⟩
  | .hbm, ⟨27, _⟩ => ⟨S254, .i32⟩
  | .hbm, ⟨28, _⟩ => ⟨S_, .f32⟩
  | .hbm, ⟨29, _⟩ => ⟨S254, .f32⟩
  | .hbm, ⟨30, _⟩ => ⟨S254, .f32⟩
  | .hbm, ⟨31, _⟩ => ⟨S254, .f32⟩
  | .hbm, ⟨32, _⟩ => ⟨S1x1x254, .f32⟩
  | .hbm, ⟨33, _⟩ => ⟨S4x4096x254, .f32⟩
  | .hbm, ⟨34, _⟩ => ⟨S4x4096x254, .f32⟩
  | .hbm, ⟨35, _⟩ => ⟨S4x4096x254, .i1⟩
  | .hbm, ⟨36, _⟩ => ⟨S4x4096x254, .i32⟩
  | .hbm, ⟨37, _⟩ => ⟨S_, .i32⟩
  | .hbm, ⟨38, _⟩ => ⟨S4x4096, .i32⟩
  | .hbm, ⟨39, _⟩ => ⟨S4x4096x1, .i32⟩
  | .hbm, ⟨40, _⟩ => ⟨S_, .i32⟩
  | .hbm, ⟨41, _⟩ => ⟨S4x4096x1, .i32⟩
  | .hbm, ⟨42, _⟩ => ⟨S4x4096x1, .i32⟩
  | .hbm, ⟨43, _⟩ => ⟨S_, .f32⟩
  | .hbm, ⟨44, _⟩ => ⟨S4x4096x1, .f32⟩
  | .hbm, ⟨45, _⟩ => ⟨S4x4096x1, .i1⟩
  | .hbm, ⟨46, _⟩ => ⟨S_, .f32⟩
  | .hbm, ⟨47, _⟩ => ⟨S4x4096x1, .f32⟩
  | .hbm, ⟨48, _⟩ => ⟨S4x4096x1, .i1⟩
  | .hbm, ⟨49, _⟩ => ⟨S4x4096x1, .i1⟩
  | .hbm, ⟨50, _⟩ => ⟨S_, .i32⟩
  | .hbm, ⟨51, _⟩ => ⟨S_, .i32⟩
  | .hbm, ⟨52, _⟩ => ⟨S4x4096x1, .i32⟩
  | .hbm, ⟨53, _⟩ => ⟨S4x4096x1, .i32⟩
  | .hbm, ⟨54, _⟩ => ⟨S_, .i32⟩
  | .hbm, ⟨55, _⟩ => ⟨S4x4096x1, .i32⟩
  | .hbm, ⟨56, _⟩ => ⟨S4x4096x1, .i1⟩
  | .hbm, ⟨57, _⟩ => ⟨S_, .i32⟩
  | .hbm, ⟨58, _⟩ => ⟨S4x4096x1, .i32⟩
  | .hbm, ⟨59, _⟩ => ⟨S4x4096x1, .i1⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x1, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S_, .f32⟩
  | .hbm, ⟨68, _⟩ => ⟨S_, .f32⟩
  | .hbm, ⟨69, _⟩ => ⟨S4x4096x1, .f32⟩
  | .hbm, ⟨70, _⟩ => ⟨S4x4096x1, .f32⟩
  | .hbm, ⟨71, _⟩ => ⟨S4x4096x1, .i32⟩
  | .hbm, ⟨72, _⟩ => ⟨S_, .i32⟩
  | .hbm, ⟨73, _⟩ => ⟨S4x4096x1, .i32⟩
  | .hbm, ⟨74, _⟩ => ⟨S4x4096x1, .i1⟩
  | .hbm, ⟨75, _⟩ => ⟨S_, .i32⟩
  | .hbm, ⟨76, _⟩ => ⟨S4x4096x1, .i32⟩
  | .hbm, ⟨77, _⟩ => ⟨S4x4096x1, .i1⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S4x4096x1, .f32⟩
  | .hbm, ⟨82, _⟩ => ⟨S_, .f32⟩
  | .hbm, ⟨83, _⟩ => ⟨S4x4096x1, .f32⟩
  | .hbm, ⟨84, _⟩ => ⟨S4x4096x1, .f32⟩
  | .hbm, ⟨85, _⟩ => ⟨S_, .f32⟩
  | .hbm, ⟨86, _⟩ => ⟨S_, .f32⟩
  | .hbm, ⟨87, _⟩ => ⟨S4x4096x1, .f32⟩
  | .hbm, ⟨88, _⟩ => ⟨S4x4096x1, .f32⟩
  | .hbm, ⟨89, _⟩ => ⟨S4x4096x4096, .f32⟩
  | .hbm, ⟨90, _⟩ => ⟨S4x4096x4096, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S4x4096x4096, .f32⟩
  | .hbm, ⟨95, _⟩ => ⟨S4x4096x4096, .f32⟩
  | .hbm, ⟨96, _⟩ => ⟨S_, .f32⟩
  | .hbm, ⟨97, _⟩ => ⟨S4x4096x4096, .f32⟩
  | .hbm, ⟨98, _⟩ => ⟨S4x4096x4096, .f32⟩
  | .hbm, ⟨99, _⟩ => ⟨S16384x1, .f32⟩
  | .hbm, ⟨100, _⟩ => ⟨S16384x4096, .f32⟩
  | .hbm, ⟨101, _⟩ => ⟨S16384x1, .f32⟩
  | .hbm, ⟨102, _⟩ => ⟨S16384x4096, .fp8e4m3⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_call1_v0 : Ref sig .tc := ⟨.hbm, 51, rfl⟩
abbrev main_call1_v1 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_call2_v0 : Ref sig .tc := ⟨.hbm, 65, rfl⟩
abbrev main_v40 : Ref sig .tc := ⟨.hbm, 66, rfl⟩
abbrev main_cst_11 : Ref sig .tc := ⟨.hbm, 67, rfl⟩
abbrev main_call3_v0 : Ref sig .tc := ⟨.hbm, 68, rfl⟩
abbrev main_call3_v1 : Ref sig .tc := ⟨.hbm, 69, rfl⟩
abbrev main_v41 : Ref sig .tc := ⟨.hbm, 70, rfl⟩
abbrev main_v42 : Ref sig .tc := ⟨.hbm, 71, rfl⟩
abbrev main_c_12 : Ref sig .tc := ⟨.hbm, 72, rfl⟩
abbrev main_v43 : Ref sig .tc := ⟨.hbm, 73, rfl⟩
abbrev main_v44 : Ref sig .tc := ⟨.hbm, 74, rfl⟩
abbrev main_c_13 : Ref sig .tc := ⟨.hbm, 75, rfl⟩
abbrev main_v45 : Ref sig .tc := ⟨.hbm, 76, rfl⟩
abbrev main_v46 : Ref sig .tc := ⟨.hbm, 77, rfl⟩
abbrev main_cst_14 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_15 : Ref sig .tc := ⟨.hbm, 82, rfl⟩
abbrev main_call4_v0 : Ref sig .tc := ⟨.hbm, 83, rfl⟩
abbrev main_v50 : Ref sig .tc := ⟨.hbm, 84, rfl⟩
abbrev main_cst_16 : Ref sig .tc := ⟨.hbm, 85, rfl⟩
abbrev main_call5_v0 : Ref sig .tc := ⟨.hbm, 86, rfl⟩
abbrev main_call5_v1 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_17 : Ref sig .tc := ⟨.hbm, 91, rfl⟩
abbrev main_cst_18 : Ref sig .tc := ⟨.hbm, 92, rfl⟩
abbrev main_call6_v0 : Ref sig .tc := ⟨.hbm, 93, rfl⟩
abbrev main_call6_v1 : Ref sig .tc := ⟨.hbm, 94, rfl⟩
abbrev main_call6_v2 : Ref sig .tc := ⟨.hbm, 95, rfl⟩
abbrev main_call6_v3 : Ref sig .tc := ⟨.hbm, 96, rfl⟩
abbrev main_call6_v4 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩

abbrev nD : Nat := 1
abbrev τ : Topo := Topo.v7x

variable {F : FTy → Type} [FloatOps F]
-- ==== Proof.Conds.lean ====
/- What the runs of the idealized kernel's body share: its branch conditions in closed form over the grid's points, the
   staging and scratch buffers it is called with, and the invariant it is handed. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_1 : ∀ t : Fin cfg0.N, cond0_1 (grid0.coords t) ↔ t.val % 8 = 0 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 8 = 0)

/-- The condition of the body's `scf.if` 2 (`k0_h3`), from the grid coordinates (the skeleton's scalar
    chain substituted). -/
abbrev cond0_2 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_2 : ∀ t : Fin cfg0.N, cond0_2 (grid0.coords t) ↔ 1 ≤ t.val % 8 :=
  (by decide +kernel : ∀ t : Fin grid0.N, cond0_2 (grid0.coords t) ↔ 1 ≤ t.val % 8)

/-- The condition of the body's `scf.if` 3 (`k0_h4`), from the grid coordinates (the skeleton's scalar
    chain substituted). -/
abbrev cond0_3 (i : grid0.Coords) : Prop := k0_cond4 i = 1#1
/-- It holds at the points ≡ 7 (mod 8) — by arithmetic of the point. -/
theorem hcond0_3 : ∀ t : Fin cfg0.N, cond0_3 (grid0.coords t) ↔ t.val % 8 = 7 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [cond0_3, k0_cond4, e0, e1]
    word_cmp
   : ∀ t : Fin grid0.N, cond0_3 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x4096 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S512x2048 .bf16 := Memref.whole cc0_scratch0
abbrev scM0_1 : Memref sig .tc .vmem S512x4096 .f32 := Memref.whole cc0_scratch1
abbrev scM0_2 : Memref sig .tc .vmem S512x1 .f32 := Memref.whole cc0_scratch2
/-- The frame kit's invariant with the scratch operands as memrefs owned at some contents : what the body is handed at a block's first point and hands back at the end. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Body

end
-- ==== Proof.RunA.lean ====
/- The run of the idealized kernel's body in case A of its conditionals, with the contents of every buffer named. -/
module

public import proofs.«01_k».proof.Proof.Conds
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point of a row block (column block 0): it leaves the cast x block in the first scratch, this point's
    512 columns of the gated product in the second, their row maxima in the third, and the outputs as they were. -/
theorem runA (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x1 .f32) (harg5 : arg5.IsWhole) (arg6 : Memref sig .tc .vmem S512x4096 .fp8e4m3) (harg6 : arg6.IsWhole) (arg7 : Memref sig .tc .vmem S512x1 .f32) (harg7 : arg7.IsWhole) (arg8 : Memref sig .tc .vmem S512x2048 .bf16) (harg8 : arg8.IsWhole) (arg9 : Memref sig .tc .vmem S512x4096 .f32) (harg9 : arg9.IsWhole) (arg10 : Memref sig .tc .vmem S512x1 .f32) (harg10 : arg10.IsWhole) (hc0 : cond0_0 i) (hc1 : cond0_1 i) (hc2 : ¬cond0_2 i) (hc3 : ¬cond0_3 i)
    (x0 : Vec F S512x2048 .f32) (x1 : Vec F S2048x512 .bf16) (x2 : Vec F S2048x512 .bf16) (d3 : Vec F S512x1 .f32) (d4 : Vec F S512x4096 .fp8e4m3) (d5 : Vec F S512x1 .f32) (xs0 : Vec F S512x2048 .bf16) (xs1 : Vec F S512x4096 .f32) (xs2 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d4 ∗ owns (c : Thread nD τ) arg7 fullShare d5 ∗ owns (c : Thread nD τ) arg8 fullShare xs0 ∗ owns (c : Thread nD τ) arg9 fullShare xs1 ∗ owns (c : Thread nD τ) arg10 fullShare xs2
        ∗ (iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d4 ∗ owns (c : Thread nD τ) arg7 fullShare d5 ∗ owns (c : Thread nD τ) arg8 fullShare (k0_pay1 x0) ∗ owns (c : Thread nD τ) arg9 fullShare (VecWindow.put xs1 ![0, 512 * (i 1).val] S512x512.size (k0_pay3 (k0_pay1 x0) x1 x2)) ∗ owns (c : Thread nD τ) arg10 fullShare (k0_pay5 (k0_pay1 x0) x1 x2)) -∗ K ⟨⟩))
      ⊢ wp frame (wpE (defs₀ (F := F)) Variants.none c none) E (cc0_swiglu_fp8_quant i arg2 harg2 arg3 harg3 arg4 harg4 arg5 harg5 arg6 harg6 arg7 harg7 arg8 harg8 arg9 harg9 arg10 harg10) K := by
  simp only [cc0_swiglu_fp8_quant_eq_skeleton]; unfold cc0_swiglu_fp8_quant_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fS0, %hfS0, HS0⟩, ⟨%fS1, %hfS1, HS1⟩, ⟨%fS2, %hfS2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfS0; obtain rfl := harg9.eq_unread hfS1; obtain rfl := harg10.eq_unread hfS2
  have e2 : View.readAt (Elt F) arg2.view (Rect.unit ![0, 0] S512x2048.size inb_S512x2048_S512x2048_0_0).toLoadRect (harg2.unread x0) = x0 := (View.readAt_full ..).trans (harg2.read_unread _)
  have e3 : View.readAt (Elt F) arg3.view (Rect.unit ![0, 0] S2048x512.size inb_S2048x512_S2048x512_0_0).toLoadRect (harg3.unread x1) = x1 := (View.readAt_full ..).trans (harg3.read_unread _)
  have e4 : View.readAt (Elt F) arg4.view (Rect.unit ![0, 0] S2048x512.size inb_S2048x512_S2048x512_0_0).toLoadRect (harg4.unread x2) = x2 := (View.readAt_full ..).trans (harg4.read_unread _)
  sl_exec (disch := first | sl_exact hc0 | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H4]
  · iexists _; isplitr; swap; · iexact H4
    ipureintro
    exact harg6.read_unread _
  isplitl [H5]
  · iexists _; isplitr; swap; · iexact H5
    ipureintro
    exact harg7.read_unread _
  isplitl [HS0]
  · iexists _; isplitr; swap; · iexact HS0
    ipureintro
    unfold runA.sl.HS0_1
    exact View.read_writes_full ..
  isplitl [HS1]
  · iexists _; isplitr; swap; · iexact HS1
    ipureintro
    have ev : runA.sl.v3 c arg8 x0 = k0_pay1 x0 := by
      unfold runA.sl.v3 runA.sl.HS0_1
      exact View.readCov_full ..
    rw [ev]
    refine (View.read_writes_cons_put _ _ _ _ _ (k0_off1_eq i)).trans ?_
    rw [View.writes_nil, harg9.read_unread]
  iexists _; isplitr; swap; · iexact HS2
  ipureintro
  have ev : runA.sl.v3 c arg8 x0 = k0_pay1 x0 := by
    unfold runA.sl.v3 runA.sl.HS0_1
    exact View.readCov_full ..
  rw [ev]
  exact View.read_writes_full ..

end Cert.KernelIdeal.Body

end
-- ==== Proof.RunB.lean ====
/- The run of the idealized kernel's body in case B of its conditionals, with the contents of every buffer named. -/
module

public import proofs.«01_k».proof.Proof.Conds
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an inner point of a row block: it writes this point's 512 columns of the gated product into the second
    scratch, raises the running row maxima in the third, and leaves the rest as it was. -/
theorem runB (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x1 .f32) (harg5 : arg5.IsWhole) (arg6 : Memref sig .tc .vmem S512x4096 .fp8e4m3) (harg6 : arg6.IsWhole) (arg7 : Memref sig .tc .vmem S512x1 .f32) (harg7 : arg7.IsWhole) (arg8 : Memref sig .tc .vmem S512x2048 .bf16) (harg8 : arg8.IsWhole) (arg9 : Memref sig .tc .vmem S512x4096 .f32) (harg9 : arg9.IsWhole) (arg10 : Memref sig .tc .vmem S512x1 .f32) (harg10 : arg10.IsWhole) (hc0 : ¬cond0_0 i) (hc1 : ¬cond0_1 i) (hc2 : cond0_2 i) (hc3 : ¬cond0_3 i)
    (x0 : Vec F S512x2048 .f32) (x1 : Vec F S2048x512 .bf16) (x2 : Vec F S2048x512 .bf16) (d3 : Vec F S512x1 .f32) (d4 : Vec F S512x4096 .fp8e4m3) (d5 : Vec F S512x1 .f32) (xs0 : Vec F S512x2048 .bf16) (xs1 : Vec F S512x4096 .f32) (xs2 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d4 ∗ owns (c : Thread nD τ) arg7 fullShare d5 ∗ owns (c : Thread nD τ) arg8 fullShare xs0 ∗ owns (c : Thread nD τ) arg9 fullShare xs1 ∗ owns (c : Thread nD τ) arg10 fullShare xs2
        ∗ (iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d4 ∗ owns (c : Thread nD τ) arg7 fullShare d5 ∗ owns (c : Thread nD τ) arg8 fullShare xs0 ∗ owns (c : Thread nD τ) arg9 fullShare (VecWindow.put xs1 ![0, 512 * (i 1).val] S512x512.size (k0_pay3 xs0 x1 x2)) ∗ owns (c : Thread nD τ) arg10 fullShare (k0_pay6 xs0 x1 x2 xs2)) -∗ K ⟨⟩))
      ⊢ wp frame (wpE (defs₀ (F := F)) Variants.none c none) E (cc0_swiglu_fp8_quant i arg2 harg2 arg3 harg3 arg4 harg4 arg5 harg5 arg6 harg6 arg7 harg7 arg8 harg8 arg9 harg9 arg10 harg10) K := by
  simp only [cc0_swiglu_fp8_quant_eq_skeleton]; unfold cc0_swiglu_fp8_quant_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fS0, %hfS0, HS0⟩, ⟨%fS1, %hfS1, HS1⟩, ⟨%fS2, %hfS2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfS0; obtain rfl := harg9.eq_unread hfS1; obtain rfl := harg10.eq_unread hfS2
  have e3 : View.readAt (Elt F) arg3.view (Rect.unit ![0, 0] S2048x512.size inb_S2048x512_S2048x512_0_0).toLoadRect (harg3.unread x1) = x1 := (View.readAt_full ..).trans (harg3.read_unread _)
  have e4 : View.readAt (Elt F) arg4.view (Rect.unit ![0, 0] S2048x512.size inb_S2048x512_S2048x512_0_0).toLoadRect (harg4.unread x2) = x2 := (View.readAt_full ..).trans (harg4.read_unread _)
  have e8 : View.readAt (Elt F) arg8.view (Rect.unit ![0, 0] S512x2048.size inb_S512x2048_S512x2048_0_0).toLoadRect (harg8.unread xs0) = xs0 := (View.readAt_full ..).trans (harg8.read_unread _)
  have e10 : View.readAt (Elt F) arg10.view (Rect.unit ![0, 0] S512x1.size inb_S512x1_S512x1_0_0).toLoadRect (harg10.unread xs2) = xs2 := (View.readAt_full ..).trans (harg10.read_unread _)
  sl_exec (disch := first | sl_exact hc0 | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H4]
  · iexists _; isplitr; swap; · iexact H4
    ipureintro
    exact harg6.read_unread _
  isplitl [H5]
  · iexists _; isplitr; swap; · iexact H5
    ipureintro
    exact harg7.read_unread _
  isplitl [HS0]
  · iexists _; isplitr; swap; · iexact HS0
    ipureintro
    exact harg8.read_unread _
  isplitl [HS1]
  · iexists _; isplitr; swap; · iexact HS1
    ipureintro
    refine (View.read_writes_cons_put _ _ _ _ _ (k0_off1_eq i)).trans ?_
    rw [View.writes_nil, harg9.read_unread]
  iexists _; isplitr; swap; · iexact HS2
  ipureintro
  exact View.read_writes_full ..

end Cert.KernelIdeal.Body

end
-- ==== Proof.RunC.lean ====
/- The run of the idealized kernel's body in case C of its conditionals, with the contents of every buffer named. -/
module

public import proofs.«01_k».proof.Proof.Conds
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scales the kernel stores for the row maxima `v`. -/
def scale (v : Vec F S512x1 .f32) : FVec F S512x1 .f32 := k0_pay14 (k0_pay8 v) (k0_pay9 v) (k0_pay10 v) (k0_pay11 v)

/-- The reciprocal scales the kernel multiplies by, for the row maxima `v`. -/
def inv (v : Vec F S512x1 .f32) : FVec F S512x1 .f32 := k0_pay15 (k0_pay8 v) (k0_pay9 v) (k0_pay10 v) (k0_pay11 v)

/-- The codes the kernel stores for the row maxima `v` and the gated product `h` of the row block. -/
def codes (v : Vec F S512x1 .f32) (h : Vec F S512x4096 .f32) : FVec F S512x4096 .fp8e4m3 := k0_pay7 (inv v) h

set_option maxHeartbeats 4000000 in
/-- The body at the last point of a row block: as at an inner point, and then the three outputs — the row maxima, the
    codes of the whole row block, the scales — are stored. -/
theorem runC (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x1 .f32) (harg5 : arg5.IsWhole) (arg6 : Memref sig .tc .vmem S512x4096 .fp8e4m3) (harg6 : arg6.IsWhole) (arg7 : Memref sig .tc .vmem S512x1 .f32) (harg7 : arg7.IsWhole) (arg8 : Memref sig .tc .vmem S512x2048 .bf16) (harg8 : arg8.IsWhole) (arg9 : Memref sig .tc .vmem S512x4096 .f32) (harg9 : arg9.IsWhole) (arg10 : Memref sig .tc .vmem S512x1 .f32) (harg10 : arg10.IsWhole) (hc0 : ¬cond0_0 i) (hc1 : ¬cond0_1 i) (hc2 : cond0_2 i) (hc3 : cond0_3 i)
    (x0 : Vec F S512x2048 .f32) (x1 : Vec F S2048x512 .bf16) (x2 : Vec F S2048x512 .bf16) (d3 : Vec F S512x1 .f32) (d4 : Vec F S512x4096 .fp8e4m3) (d5 : Vec F S512x1 .f32) (xs0 : Vec F S512x2048 .bf16) (xs1 : Vec F S512x4096 .f32) (xs2 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d4 ∗ owns (c : Thread nD τ) arg7 fullShare d5 ∗ owns (c : Thread nD τ) arg8 fullShare xs0 ∗ owns (c : Thread nD τ) arg9 fullShare xs1 ∗ owns (c : Thread nD τ) arg10 fullShare xs2
        ∗ (iprop(owns (c : Thread nD τ) arg2 fullShare x0 ∗ owns (c : Thread nD τ) arg3 fullShare x1 ∗ owns (c : Thread nD τ) arg4 fullShare x2 ∗ owns (c : Thread nD τ) arg5 fullShare (k0_pay6 xs0 x1 x2 xs2) ∗ owns (c : Thread nD τ) arg6 fullShare (codes (k0_pay6 xs0 x1 x2 xs2) (VecWindow.put xs1 ![0, 512 * (i 1).val] S512x512.size (k0_pay3 xs0 x1 x2))) ∗ owns (c : Thread nD τ) arg7 fullShare (scale (k0_pay6 xs0 x1 x2 xs2)) ∗ owns (c : Thread nD τ) arg8 fullShare xs0 ∗ owns (c : Thread nD τ) arg9 fullShare (VecWindow.put xs1 ![0, 512 * (i 1).val] S512x512.size (k0_pay3 xs0 x1 x2)) ∗ owns (c : Thread nD τ) arg10 fullShare (k0_pay6 xs0 x1 x2 xs2)) -∗ K ⟨⟩))
      ⊢ wp frame (wpE (defs₀ (F := F)) Variants.none c none) E (cc0_swiglu_fp8_quant i arg2 harg2 arg3 harg3 arg4 harg4 arg5 harg5 arg6 harg6 arg7 harg7 arg8 harg8 arg9 harg9 arg10 harg10) K := by
  simp only [cc0_swiglu_fp8_quant_eq_skeleton]; unfold cc0_swiglu_fp8_quant_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fS0, %hfS0, HS0⟩, ⟨%fS1, %hfS1, HS1⟩, ⟨%fS2, %hfS2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfS0; obtain rfl := harg9.eq_unread hfS1; obtain rfl := harg10.eq_unread hfS2
  have e3 : View.readAt (Elt F) arg3.view (Rect.unit ![0, 0] S2048x512.size inb_S2048x512_S2048x512_0_0).toLoadRect (harg3.unread x1) = x1 := (View.readAt_full ..).trans (harg3.read_unread _)
  have e4 : View.readAt (Elt F) arg4.view (Rect.unit ![0, 0] S2048x512.size inb_S2048x512_S2048x512_0_0).toLoadRect (harg4.unread x2) = x2 := (View.readAt_full ..).trans (harg4.read_unread _)
  have e8 : View.readAt (Elt F) arg8.view (Rect.unit ![0, 0] S512x2048.size inb_S512x2048_S512x2048_0_0).toLoadRect (harg8.unread xs0) = xs0 := (View.readAt_full ..).trans (harg8.read_unread _)
  have e10 : View.readAt (Elt F) arg10.view (Rect.unit ![0, 0] S512x1.size inb_S512x1_S512x1_0_0).toLoadRect (harg10.unread xs2) = xs2 := (View.readAt_full ..).trans (harg10.read_unread _)
  sl_exec (disch := first | sl_exact hc0 | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    have ev : runC.sl.v31 c arg10 x1 x2 xs0 xs2 = k0_pay6 xs0 x1 x2 xs2 := by
      unfold runC.sl.v31 runC.sl.HS2_1
      exact View.readCov_full ..
    rw [ev]
    exact View.read_writes_full ..
  isplitl [H4]
  · iexists _; isplitr; swap; · iexact H4
    ipureintro
    have ev : runC.sl.v31 c arg10 x1 x2 xs0 xs2 = k0_pay6 xs0 x1 x2 xs2 := by
      unfold runC.sl.v31 runC.sl.HS2_1
      exact View.readCov_full ..
    have eh : runC.sl.v114 c i arg9 harg9 x1 x2 xs0 xs1 = VecWindow.put xs1 ![0, 512 * (i 1).val] S512x512.size (k0_pay3 xs0 x1 x2) := by
      unfold runC.sl.v114 runC.sl.HS1_1
      refine (View.readAt_full ..).trans ?_
      refine (View.read_writes_cons_put _ _ _ _ _ (k0_off1_eq i)).trans ?_
      rw [View.writes_nil, harg9.read_unread]
    unfold runC.sl.r_4 runC.sl.r runC.sl.r_1 runC.sl.r_2 runC.sl.r_3
    rw [ev, eh]
    exact View.read_writes_full ..
  isplitl [H5]
  · iexists _; isplitr; swap; · iexact H5
    ipureintro
    have ev : runC.sl.v31 c arg10 x1 x2 xs0 xs2 = k0_pay6 xs0 x1 x2 xs2 := by
      unfold runC.sl.v31 runC.sl.HS2_1
      exact View.readCov_full ..
    unfold runC.sl.r runC.sl.r_1 runC.sl.r_2 runC.sl.r_3
    rw [ev]
    exact View.read_writes_full ..
  isplitl [HS0]
  · iexists _; isplitr; swap; · iexact HS0
    ipureintro
    exact harg8.read_unread _
  isplitl [HS1]
  · iexists _; isplitr; swap; · iexact HS1
    ipureintro
    unfold runC.sl.HS1_1
    refine (View.read_writes_cons_put _ _ _ _ _ (k0_off1_eq i)).trans ?_
    rw [View.writes_nil, harg9.read_unread]
  iexists _; isplitr; swap; · iexact HS2
  ipureintro
  unfold runC.sl.HS2_1
  exact View.read_writes_full ..

end Cert.KernelIdeal.Body

end
-- ==== Proof.Data.lean ====
/- What the idealized kernel's scratch and outputs hold point by point, and the body obligation over it. -/
module

public import proofs.«01_k».proof.Proof.RunA
public import proofs.«01_k».proof.Proof.RunB
public import proofs.«01_k».proof.Proof.RunC
public import Idealize.ShloMosaic.Lib.Claim
public import Idealize.ShloMosaic.Lib.Pipeline.ValueKit
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch holds -/

/-- After point `n`: the cast x block of the point's row block, and the running row maxima over the column blocks done. -/
def st (c : Dev nD) : (n : ℕ) → n < cfg0.N → Vec F S512x2048 .bf16 × Vec F S512x1 .f32
  | 0, h => (k0_pay1 (iblk m c 0 ⟨0, h⟩), k0_pay5 (k0_pay1 (iblk m c 0 ⟨0, h⟩)) (iblk m c 1 ⟨0, h⟩) (iblk m c 2 ⟨0, h⟩))
  | n + 1, h =>
    if (n + 1) % 8 = 0 then
      (k0_pay1 (iblk m c 0 ⟨n + 1, h⟩), k0_pay5 (k0_pay1 (iblk m c 0 ⟨n + 1, h⟩)) (iblk m c 1 ⟨n + 1, h⟩) (iblk m c 2 ⟨n + 1, h⟩))
    else
      ((st c n (Nat.lt_of_succ_lt h)).1,
        k0_pay6 (st c n (Nat.lt_of_succ_lt h)).1 (iblk m c 1 ⟨n + 1, h⟩) (iblk m c 2 ⟨n + 1, h⟩) (st c n (Nat.lt_of_succ_lt h)).2)

/-- At a row block's first point both are computed afresh. -/
theorem st_first (c : Dev nD) (t : Fin cfg0.N) (h : t.val % 8 = 0) :
    st m c t.val t.isLt = (k0_pay1 (iblk m c 0 t), k0_pay5 (k0_pay1 (iblk m c 0 t)) (iblk m c 1 t) (iblk m c 2 t)) := by
  obtain ⟨n, hn⟩ := t
  cases n with
  | zero => rfl
  | succ n => exact if_pos h

/-- At the others the cast block stays and the maxima are raised. -/
theorem st_next (c : Dev nD) (t : Fin cfg0.N) (h : ¬t.val % 8 = 0) :
    st m c t.val t.isLt = ((st m c (t.val - 1) (by omega)).1,
      k0_pay6 (st m c (t.val - 1) (by omega)).1 (iblk m c 1 t) (iblk m c 2 t) (st m c (t.val - 1) (by omega)).2) := by
  obtain ⟨n, hn⟩ := t
  cases n with
  | zero => exact absurd (Nat.zero_mod _) h
  | succ n => exact if_neg h

/-- The gated product's 512 columns computed at point `t`. -/
def hpart (c : Dev nD) (n : ℕ) (h : n < cfg0.N) : FVec F S512x512 .f32 :=
  k0_pay3 (st m c n h).1 (iblk m c 1 ⟨n, h⟩) (iblk m c 2 ⟨n, h⟩)

/-- Column block `n % 8` lies inside the 4096 columns. -/
theorem colInb (n : ℕ) : ∀ a, (![0, 512 * (n % 8)] : Fin 2 → ℕ) a + S512x512.size a ≤ S512x4096.size a := by
  intro a
  match a with
  | ⟨0, _⟩ => show 0 + 512 ≤ 512; omega
  | ⟨1, _⟩ => show 512 * (n % 8) + 512 ≤ 4096; omega

/-- After point `n` the second scratch `d` holds, for each point `u` of the row block so far, that point's 512 columns. -/
def HP (c : Dev nD) (n : ℕ) (d : Vec F S512x4096 .f32) : Prop :=
  ∀ (u : ℕ) (h : u < cfg0.N), u ≤ n → u / 8 = n / 8 →
    VecWindow.window d ![0, 512 * (u % 8)] S512x512.size (colInb u) = hpart m c u h

/-- The whole row block of the gated product, as the second scratch holds it after the row block's last point. -/
def hfull (c : Dev nD) (t : Fin cfg0.N) : Vec F S512x4096 .f32 := fun y =>
  hpart m c (8 * (t.val / 8) + (y 1).val / 512)
    (by have h1 : (y 1).val < 4096 := (y 1).isLt
        have ht : t.val < 256 := lt_of_lt_of_eq t.isLt N_0
        have : cfg0.N = 256 := N_0
        omega)
    (ix2 (⟨(y 0).val, (y 0).isLt⟩ : Fin 512) (⟨(y 1).val % 512, Nat.mod_lt _ (by decide)⟩ : Fin 512))

/-- Storing point `t`'s columns keeps `HP`, at the row block's first point whatever was there. -/
theorem HP_first (c : Dev nD) (t : Fin cfg0.N) (h0 : t.val % 8 = 0) (d : Vec F S512x4096 .f32) :
    HP m c t.val (VecWindow.put d ![0, 512 * (t.val % 8)] S512x512.size (hpart m c t.val t.isLt)) := by
  intro u hu hle hb
  have e : u = t.val := by omega
  subst e
  exact VecWindow.window_put_same d _ _ _ _

/-- At the others it extends what the points before left. -/
theorem HP_next (c : Dev nD) (t : Fin cfg0.N) (h0 : ¬t.val % 8 = 0) (d : Vec F S512x4096 .f32) (hd : HP m c (t.val - 1) d) :
    HP m c t.val (VecWindow.put d ![0, 512 * (t.val % 8)] S512x512.size (hpart m c t.val t.isLt)) := by
  intro u hu hle hb
  by_cases e : u = t.val
  · subst e
    exact VecWindow.window_put_same d _ _ _ _
  · refine (VecWindow.window_put_of_disjoint d _ _ _ _ (colInb u) _ 1 ?_).trans (hd u hu (by omega) (by omega))
    show 512 * (u % 8) + 512 ≤ 512 * (t.val % 8) ∨ 512 * (t.val % 8) + 512 ≤ 512 * (u % 8)
    omega

/-- After the row block's last point the second scratch is the whole row block. -/
theorem HP_last (c : Dev nD) (t : Fin cfg0.N) (h7 : t.val % 8 = 7) (d : Vec F S512x4096 .f32) (hd : HP m c t.val d) :
    d = hfull m c t := by
  funext y
  have h1 : (y 1).val < 4096 := (y 1).isLt
  have ht : t.val < 256 := lt_of_lt_of_eq t.isLt N_0
  have hN : cfg0.N = 256 := N_0
  have e := hd (8 * (t.val / 8) + (y 1).val / 512) (by omega) (by omega) (by omega)
  unfold hfull
  rw [← e]
  refine congrArg d (funext fun a => Fin.ext ?_)
  match a with
  | ⟨0, _⟩ => show (y 0).val = 0 + 1 * (y 0).val; omega
  | ⟨1, _⟩ => show (y 1).val = 512 * ((8 * (t.val / 8) + (y 1).val / 512) % 8) + 1 * ((y 1).val % 512); omega

/-! ## The invariant and the proof data -/

/-- The invariant before position `n`: before the first point every scratch at anything; afterwards the first and third
    scratch at `st`, the second at something `HP` describes. -/
def PhiS (c : Dev nD) : (n : ℕ) → n ≤ cfg0.N → sProp 𝕄
  | 0, _ => Pipeline.ΦA spec0 c
  | n + 1, hn => iprop(iprop(owns (c : Thread nD τ) scM0_0 fullShare ((st m c n hn).1) ∗ (∃ d, iprop(owns (c : Thread nD τ) scM0_1 fullShare d ∗ ⌜HP m c n d⌝)) ∗ owns (c : Thread nD τ) scM0_2 fullShare ((st m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((st m c n hn).1) ∗ (∃ d, iprop(owns (c : Thread nD τ) scM0_1 fullShare d ∗ ⌜HP m c n d⌝)) ∗ owns (c : Thread nD τ) scM0_2 fullShare ((st m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((st m c (n - 1) (by omega)).1) ∗ (∃ d, iprop(owns (c : Thread nD τ) scM0_1 fullShare d ∗ ⌜HP m c (n - 1) d⌝)) ∗ owns (c : Thread nD τ) scM0_2 fullShare ((st m c (n - 1) (by omega)).2)) ∗ (∃ r, prngReg c r)) := by
  cases n with
  | zero => exact absurd rfl hz
  | succ n => rfl

/-- The proof data: the arrays as the region finds them; after the body each input's buffer at its block, the outputs'
    buffers (where they are written back) at the row maxima, the codes and the scales of the row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (st m c t.val t.isLt).2
    | ⟨4, _⟩ => codes (st m c t.val t.isLt).2 (hfull m c t)
    | ⟨5, _⟩ => scale (st m c t.val t.isLt).2
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (st m c t.val t.isLt).2 := by dsimp only [dats]
theorem after0_4 (c : Dev nD) (t : Fin cfg0.N) : (dats m 0 c).after 4 t = codes (st m c t.val t.isLt).2 (hfull m c t) := by dsimp only [dats]
theorem after0_5 (c : Dev nD) (t : Fin cfg0.N) : (dats m 0 c).after 5 t = scale (st m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The grid's second coordinate at point `t`. -/
theorem coord1 (t : Fin cfg0.N) : (grid0.coords t 1).val = t.val % 8 := by
  have e1 : (grid0.coords t 1).val = t.val / 1 % 8 := Pipeline.Grid.coords_val t 1 (by decide) rfl
  omega

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input's buffer is handed back at its block. -/
theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]

/-- Output 0 is idle away from a row block's last point, -/
theorem idleAt0_3 (t : Fin cfg0.N) (h : ¬t.val % 8 = 7) : cfg0.idle 3 (grid0.coords t) = true := by
  have hc : ¬k0_cond4 (grid0.coords t) = 1#1 := fun hh => h ((hcond0_3 t).mp hh)
  show (!(k0_cond4 (grid0.coords t) == 1#1)) = true
  rw [beq_eq_false_iff_ne.mpr hc]; rfl
/-- and live at it. -/
theorem liveAt0_3 (t : Fin cfg0.N) (h : t.val % 8 = 7) : cfg0.idle 3 (grid0.coords t) = false := by
  have hc : k0_cond4 (grid0.coords t) = 1#1 := (hcond0_3 t).mpr h
  show (!(k0_cond4 (grid0.coords t) == 1#1)) = false
  rw [hc]; rfl
theorem leaves_idle3 (c : Dev nD) (t : Fin cfg0.N) (h : ¬t.val % 8 = 7) :
    (dats m 0 c).leavesExact 3 t = iprop(∃ d, owns (c : Thread nD τ) (ms0_3 t) fullShare ((dats m 0 c).before 3 t d)) :=
  (dats m 0 c).leavesExact_idle 3 t (idleAt0_3 t h)
    (Bool.eq_false_iff.mpr fun hf => h ((flush0_3 t).mp hf))
theorem leaves_live3 (c : Dev nD) (t : Fin cfg0.N) (h : t.val % 8 = 7) :
    (dats m 0 c).leavesExact 3 t = owns (c : Thread nD τ) (ms0_3 t) fullShare ((dats m 0 c).after 3 t) := by
  unfold Dat.leavesExact; rw [liveAt0_3 t h]

/-- Output 1 is idle away from a row block's last point, -/
theorem idleAt0_4 (t : Fin cfg0.N) (h : ¬t.val % 8 = 7) : cfg0.idle 4 (grid0.coords t) = true := by
  have hc : ¬k0_cond4 (grid0.coords t) = 1#1 := fun hh => h ((hcond0_3 t).mp hh)
  show (!(k0_cond4 (grid0.coords t) == 1#1)) = true
  rw [beq_eq_false_iff_ne.mpr hc]; rfl
/-- and live at it. -/
theorem liveAt0_4 (t : Fin cfg0.N) (h : t.val % 8 = 7) : cfg0.idle 4 (grid0.coords t) = false := by
  have hc : k0_cond4 (grid0.coords t) = 1#1 := (hcond0_3 t).mpr h
  show (!(k0_cond4 (grid0.coords t) == 1#1)) = false
  rw [hc]; rfl
theorem leaves_idle4 (c : Dev nD) (t : Fin cfg0.N) (h : ¬t.val % 8 = 7) :
    (dats m 0 c).leavesExact 4 t = iprop(∃ d, owns (c : Thread nD τ) (ms0_4 t) fullShare ((dats m 0 c).before 4 t d)) :=
  (dats m 0 c).leavesExact_idle 4 t (idleAt0_4 t h)
    (Bool.eq_false_iff.mpr fun hf => h ((flush0_4 t).mp hf))
theorem leaves_live4 (c : Dev nD) (t : Fin cfg0.N) (h : t.val % 8 = 7) :
    (dats m 0 c).leavesExact 4 t = owns (c : Thread nD τ) (ms0_4 t) fullShare ((dats m 0 c).after 4 t) := by
  unfold Dat.leavesExact; rw [liveAt0_4 t h]

/-- Output 2 is idle away from a row block's last point, -/
theorem idleAt0_5 (t : Fin cfg0.N) (h : ¬t.val % 8 = 7) : cfg0.idle 5 (grid0.coords t) = true := by
  have hc : ¬k0_cond4 (grid0.coords t) = 1#1 := fun hh => h ((hcond0_3 t).mp hh)
  show (!(k0_cond4 (grid0.coords t) == 1#1)) = true
  rw [beq_eq_false_iff_ne.mpr hc]; rfl
/-- and live at it. -/
theorem liveAt0_5 (t : Fin cfg0.N) (h : t.val % 8 = 7) : cfg0.idle 5 (grid0.coords t) = false := by
  have hc : k0_cond4 (grid0.coords t) = 1#1 := (hcond0_3 t).mpr h
  show (!(k0_cond4 (grid0.coords t) == 1#1)) = false
  rw [hc]; rfl
theorem leaves_idle5 (c : Dev nD) (t : Fin cfg0.N) (h : ¬t.val % 8 = 7) :
    (dats m 0 c).leavesExact 5 t = iprop(∃ d, owns (c : Thread nD τ) (ms0_5 t) fullShare ((dats m 0 c).before 5 t d)) :=
  (dats m 0 c).leavesExact_idle 5 t (idleAt0_5 t h)
    (Bool.eq_false_iff.mpr fun hf => h ((flush0_5 t).mp hf))
theorem leaves_live5 (c : Dev nD) (t : Fin cfg0.N) (h : t.val % 8 = 7) :
    (dats m 0 c).leavesExact 5 t = owns (c : Thread nD τ) (ms0_5 t) fullShare ((dats m 0 c).after 5 t) := by
  unfold Dat.leavesExact; rw [liveAt0_5 t h]

set_option maxHeartbeats 1600000 in
/-- The body at the first point of all. -/
theorem sound_zero (c : Dev nD) (t : Fin cfg0.N) (hz : t.val = 0) (h0 : t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2]
  have h7 : ¬t.val % 8 = 7 := by omega
  rw [leaves_idle3 m c t h7, leaves_idle4 m c t h7, leaves_idle5 m c t h7]
  rw [PhiS_castSucc m c t, PhiS_zero m c _ _ hz, PhiA0_eq]
  have est := st_first m c t h0
  iintro ⟨⟨⟨⟨%xs0, HS0⟩, ⟨%xs1, HS1⟩, ⟨%xs2, HS2⟩⟩, Hg⟩, Ho, ⟨%d0, H0⟩, ⟨%d1, H1⟩, ⟨%d2, H2⟩, ⟨%d3, H3⟩, ⟨%d4, H4⟩, ⟨%d5, H5⟩⟩
  have ehp := HP_first m c t h0 xs1
  unfold hpart at ehp
  rw [est] at ehp ⊢
  rw [← coord1 t] at ehp
  iapply (runA c (grid0.coords t) _ _ _ _ _ _ _ _ _ _ _ _ _ _ _ _ _ _ ((hcond0_0 t).mpr h0) ((hcond0_1 t).mpr h0) (fun h => absurd ((hcond0_2 t).mp h) (by omega)) (fun h => absurd ((hcond0_3 t).mp h) (by omega)) _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]
      · iexists _; isplitl; · iexact HS1
        ipureintro; exact ehp
      iexact HS2
    iexact Hg
  isplitl [Ho]; · iexact Ho
  isplitl [H0]; · iexact H0
  isplitl [H1]; · iexact H1
  isplitl [H2]; · iexact H2
  isplitl [H3]; · iexists _; iexact H3
  isplitl [H4]; · iexists _; iexact H4
  iexists _; iexact H5

set_option maxHeartbeats 1600000 in
/-- The body at a later row block's first point. -/
theorem sound_first (c : Dev nD) (t : Fin cfg0.N) (hz : t.val ≠ 0) (h0 : t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2]
  have h7 : ¬t.val % 8 = 7 := by omega
  rw [leaves_idle3 m c t h7, leaves_idle4 m c t h7, leaves_idle5 m c t h7]
  rw [PhiS_castSucc m c t, PhiS_pos m c _ _ hz]
  have est := st_first m c t h0
  iintro ⟨⟨⟨HS0, ⟨%xs1, HS1, %hHP⟩, HS2⟩, Hg⟩, Ho, ⟨%d0, H0⟩, ⟨%d1, H1⟩, ⟨%d2, H2⟩, ⟨%d3, H3⟩, ⟨%d4, H4⟩, ⟨%d5, H5⟩⟩
  have ehp := HP_first m c t h0 xs1
  unfold hpart at ehp
  rw [est] at ehp ⊢
  rw [← coord1 t] at ehp
  iapply (runA c (grid0.coords t) _ _ _ _ _ _ _ _ _ _ _ _ _ _ _ _ _ _ ((hcond0_0 t).mpr h0) ((hcond0_1 t).mpr h0) (fun h => absurd ((hcond0_2 t).mp h) (by omega)) (fun h => absurd ((hcond0_3 t).mp h) (by omega)) _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]
      · iexists _; isplitl; · iexact HS1
        ipureintro; exact ehp
      iexact HS2
    iexact Hg
  isplitl [Ho]; · iexact Ho
  isplitl [H0]; · iexact H0
  isplitl [H1]; · iexact H1
  isplitl [H2]; · iexact H2
  isplitl [H3]; · iexists _; iexact H3
  isplitl [H4]; · iexists _; iexact H4
  iexists _; iexact H5

set_option maxHeartbeats 1600000 in
/-- The body at an inner point of a row block. -/
theorem sound_inner (c : Dev nD) (t : Fin cfg0.N) (hz : t.val ≠ 0) (h0 : ¬t.val % 8 = 0) (h7 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2]
  rw [leaves_idle3 m c t h7, leaves_idle4 m c t h7, leaves_idle5 m c t h7]
  rw [PhiS_castSucc m c t, PhiS_pos m c _ _ hz]
  have est := st_next m c t h0
  iintro ⟨⟨⟨HS0, ⟨%xs1, HS1, %hHP⟩, HS2⟩, Hg⟩, Ho, ⟨%d0, H0⟩, ⟨%d1, H1⟩, ⟨%d2, H2⟩, ⟨%d3, H3⟩, ⟨%d4, H4⟩, ⟨%d5, H5⟩⟩
  have ehp := HP_next m c t h0 xs1 hHP
  unfold hpart at ehp
  rw [est] at ehp ⊢
  rw [← coord1 t] at ehp
  iapply (runB c (grid0.coords t) _ _ _ _ _ _ _ _ _ _ _ _ _ _ _ _ _ _ (fun h => h0 ((hcond0_0 t).mp h)) (fun h => h0 ((hcond0_1 t).mp h)) ((hcond0_2 t).mpr (by omega)) (fun h => h7 ((hcond0_3 t).mp h)) _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]
      · iexists _; isplitl; · iexact HS1
        ipureintro; exact ehp
      iexact HS2
    iexact Hg
  isplitl [Ho]; · iexact Ho
  isplitl [H0]; · iexact H0
  isplitl [H1]; · iexact H1
  isplitl [H2]; · iexact H2
  isplitl [H3]; · iexists _; iexact H3
  isplitl [H4]; · iexists _; iexact H4
  iexists _; iexact H5

set_option maxHeartbeats 1600000 in
/-- The body at a row block's last point. -/
theorem sound_last (c : Dev nD) (t : Fin cfg0.N) (hz : t.val ≠ 0) (h0 : ¬t.val % 8 = 0) (h7 : t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2]
  rw [leaves_live3 m c t h7, leaves_live4 m c t h7, leaves_live5 m c t h7, after0_3, after0_4, after0_5]
  rw [PhiS_castSucc m c t, PhiS_pos m c _ _ hz]
  have est := st_next m c t h0
  iintro ⟨⟨⟨HS0, ⟨%xs1, HS1, %hHP⟩, HS2⟩, Hg⟩, Ho, ⟨%d0, H0⟩, ⟨%d1, H1⟩, ⟨%d2, H2⟩, ⟨%d3, H3⟩, ⟨%d4, H4⟩, ⟨%d5, H5⟩⟩
  have ehp := HP_next m c t h0 xs1 hHP
  unfold hpart at ehp
  rw [est] at ehp ⊢
  rw [← coord1 t] at ehp
  have elast := HP_last m c t h7 _ ehp
  iapply (runC c (grid0.coords t) _ _ _ _ _ _ _ _ _ _ _ _ _ _ _ _ _ _ (fun h => h0 ((hcond0_0 t).mp h)) (fun h => h0 ((hcond0_1 t).mp h)) ((hcond0_2 t).mpr (by omega)) ((hcond0_3 t).mpr h7) _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]
      · iexists _; isplitl; · iexact HS1
        ipureintro; exact ehp
      iexact HS2
    iexact Hg
  isplitl [Ho]; · iexact Ho
  isplitl [H0]; · iexact H0
  isplitl [H1]; · iexact H1
  isplitl [H2]; · iexact H2
  isplitl [H3]; · iexact H3
  isplitl [H4]
  · rw [← elast]; iexact H4
  iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · by_cases hz : t.val = 0
    · exact sound_zero m c t hz h0
    · exact sound_first m c t hz h0
  · have hz : t.val ≠ 0 := fun h => h0 (by rw [h])
    by_cases h7 : t.val % 8 = 7
    · exact sound_last m c t hz h0 h7
    · exact sound_inner m c t hz h0 h7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back. -/
theorem hout (c : Dev nD) : (dats m 0 c).Φ (Fin.last cfg0.N) ⊢ Pipeline.ΦA spec0 c := by
  have ht : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, ⟨%xs1, HS1, %hHP⟩, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- Every weakly fair execution of the idealized kernel terminates, every final state has the pipeline's arrays at the
    proof data's and every other unscoped buffer as the region found it, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ))
    ((θ_run defs _ _).mono (fun _ h => h.2) (run_main_quiescent m ρ))

end Cert.KernelIdeal.Body

end
-- ==== Proof.BitsConds.lean ====
/- What the runs of the un-idealized kernel's body share: its branch conditions in closed form over the grid's points, the
   staging and scratch buffers it is called with, and the invariant it is handed. -/
module

public import proofs.«01_k».proof.Proof.Gen.Kernel.Frame
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_1 : ∀ t : Fin cfg0.N, cond0_1 (grid0.coords t) ↔ t.val % 8 = 0 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 8 = 0)

/-- The condition of the body's `scf.if` 2 (`k0_h3`), from the grid coordinates (the skeleton's scalar
    chain substituted). -/
abbrev cond0_2 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_2 : ∀ t : Fin cfg0.N, cond0_2 (grid0.coords t) ↔ 1 ≤ t.val % 8 :=
  (by decide +kernel : ∀ t : Fin grid0.N, cond0_2 (grid0.coords t) ↔ 1 ≤ t.val % 8)

/-- The condition of the body's `scf.if` 3 (`k0_h4`), from the grid coordinates (the skeleton's scalar
    chain substituted). -/
abbrev cond0_3 (i : grid0.Coords) : Prop := k0_cond4 i = 1#1
/-- It holds at the points ≡ 7 (mod 8) — by arithmetic of the point. -/
theorem hcond0_3 : ∀ t : Fin cfg0.N, cond0_3 (grid0.coords t) ↔ t.val % 8 = 7 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [cond0_3, k0_cond4, e0, e1]
    word_cmp
   : ∀ t : Fin grid0.N, cond0_3 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x4096 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S512x2048 .bf16 := Memref.whole cc0_scratch0
abbrev scM0_1 : Memref sig .tc .vmem S512x4096 .f32 := Memref.whole cc0_scratch1
abbrev scM0_2 : Memref sig .tc .vmem S512x1 .f32 := Memref.whole cc0_scratch2
/-- The frame kit's invariant with the scratch operands as memrefs owned at some contents : what the body is handed at a block's first point and hands back at the end. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Body

end
-- ==== Proof.BitsRunA.lean ====
/- The run of the un-idealized kernel's body in case A of its conditionals, with the contents of every buffer named. -/
module

public import proofs.«01_k».proof.Proof.BitsConds
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first point of a row block (column block 0): it leaves the cast x block in the first scratch, this point's
    512 columns of the gated product in the second, their row maxima in the third, and the outputs as they were. -/
theorem runA (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x1 .f32) (harg5 : arg5.IsWhole) (arg6 : Memref sig .tc .vmem S512x4096 .fp8e4m3) (harg6 : arg6.IsWhole) (arg7 : Memref sig .tc .vmem S512x1 .f32) (harg7 : arg7.IsWhole) (arg8 : Memref sig .tc .vmem S512x2048 .bf16) (harg8 : arg8.IsWhole) (arg9 : Memref sig .tc .vmem S512x4096 .f32) (harg9 : arg9.IsWhole) (arg10 : Memref sig .tc .vmem S512x1 .f32) (harg10 : arg10.IsWhole) (hc0 : cond0_0 i) (hc1 : cond0_1 i) (hc2 : ¬cond0_2 i) (hc3 : ¬cond0_3 i)
    (x0 : Vec F S512x2048 .f32) (x1 : Vec F S2048x512 .bf16) (x2 : Vec F S2048x512 .bf16) (d3 : Vec F S512x1 .f32) (d4 : Vec F S512x4096 .fp8e4m3) (d5 : Vec F S512x1 .f32) (xs0 : Vec F S512x2048 .bf16) (xs1 : Vec F S512x4096 .f32) (xs2 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d4 ∗ owns (c : Thread nD τ) arg7 fullShare d5 ∗ owns (c : Thread nD τ) arg8 fullShare xs0 ∗ owns (c : Thread nD τ) arg9 fullShare xs1 ∗ owns (c : Thread nD τ) arg10 fullShare xs2
        ∗ (iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d4 ∗ owns (c : Thread nD τ) arg7 fullShare d5 ∗ owns (c : Thread nD τ) arg8 fullShare (k0_pay1 x0) ∗ owns (c : Thread nD τ) arg9 fullShare (VecWindow.put xs1 ![0, 512 * (i 1).val] S512x512.size (k0_pay3 (k0_pay1 x0) x1 x2)) ∗ owns (c : Thread nD τ) arg10 fullShare (k0_pay5 (k0_pay1 x0) x1 x2)) -∗ K ⟨⟩))
      ⊢ wp frame (wpE (defs₀ (F := F)) Variants.none c none) E (cc0_swiglu_fp8_quant i arg2 harg2 arg3 harg3 arg4 harg4 arg5 harg5 arg6 harg6 arg7 harg7 arg8 harg8 arg9 harg9 arg10 harg10) K := by
  simp only [cc0_swiglu_fp8_quant_eq_skeleton]; unfold cc0_swiglu_fp8_quant_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fS0, %hfS0, HS0⟩, ⟨%fS1, %hfS1, HS1⟩, ⟨%fS2, %hfS2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfS0; obtain rfl := harg9.eq_unread hfS1; obtain rfl := harg10.eq_unread hfS2
  have e2 : View.readAt (Elt F) arg2.view (Rect.unit ![0, 0] S512x2048.size inb_S512x2048_S512x2048_0_0).toLoadRect (harg2.unread x0) = x0 := (View.readAt_full ..).trans (harg2.read_unread _)
  have e3 : View.readAt (Elt F) arg3.view (Rect.unit ![0, 0] S2048x512.size inb_S2048x512_S2048x512_0_0).toLoadRect (harg3.unread x1) = x1 := (View.readAt_full ..).trans (harg3.read_unread _)
  have e4 : View.readAt (Elt F) arg4.view (Rect.unit ![0, 0] S2048x512.size inb_S2048x512_S2048x512_0_0).toLoadRect (harg4.unread x2) = x2 := (View.readAt_full ..).trans (harg4.read_unread _)
  sl_exec (disch := first | sl_exact hc0 | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H4]
  · iexists _; isplitr; swap; · iexact H4
    ipureintro
    exact harg6.read_unread _
  isplitl [H5]
  · iexists _; isplitr; swap; · iexact H5
    ipureintro
    exact harg7.read_unread _
  isplitl [HS0]
  · iexists _; isplitr; swap; · iexact HS0
    ipureintro
    unfold runA.sl.HS0_1
    exact View.read_writes_full ..
  isplitl [HS1]
  · iexists _; isplitr; swap; · iexact HS1
    ipureintro
    have ev : runA.sl.v3 c arg8 x0 = k0_pay1 x0 := by
      unfold runA.sl.v3 runA.sl.HS0_1
      exact View.readCov_full ..
    rw [ev]
    refine (View.read_writes_cons_put _ _ _ _ _ (k0_off1_eq i)).trans ?_
    rw [View.writes_nil, harg9.read_unread]
  iexists _; isplitr; swap; · iexact HS2
  ipureintro
  have ev : runA.sl.v3 c arg8 x0 = k0_pay1 x0 := by
    unfold runA.sl.v3 runA.sl.HS0_1
    exact View.readCov_full ..
  rw [ev]
  exact View.read_writes_full ..

end Cert.Kernel.Body

end
-- ==== Proof.BitsRunB.lean ====
/- The run of the un-idealized kernel's body in case B of its conditionals, with the contents of every buffer named. -/
module

public import proofs.«01_k».proof.Proof.BitsConds
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at an inner point of a row block: it writes this point's 512 columns of the gated product into the second
    scratch, raises the running row maxima in the third, and leaves the rest as it was. -/
theorem runB (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x1 .f32) (harg5 : arg5.IsWhole) (arg6 : Memref sig .tc .vmem S512x4096 .fp8e4m3) (harg6 : arg6.IsWhole) (arg7 : Memref sig .tc .vmem S512x1 .f32) (harg7 : arg7.IsWhole) (arg8 : Memref sig .tc .vmem S512x2048 .bf16) (harg8 : arg8.IsWhole) (arg9 : Memref sig .tc .vmem S512x4096 .f32) (harg9 : arg9.IsWhole) (arg10 : Memref sig .tc .vmem S512x1 .f32) (harg10 : arg10.IsWhole) (hc0 : ¬cond0_0 i) (hc1 : ¬cond0_1 i) (hc2 : cond0_2 i) (hc3 : ¬cond0_3 i)
    (x0 : Vec F S512x2048 .f32) (x1 : Vec F S2048x512 .bf16) (x2 : Vec F S2048x512 .bf16) (d3 : Vec F S512x1 .f32) (d4 : Vec F S512x4096 .fp8e4m3) (d5 : Vec F S512x1 .f32) (xs0 : Vec F S512x2048 .bf16) (xs1 : Vec F S512x4096 .f32) (xs2 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d4 ∗ owns (c : Thread nD τ) arg7 fullShare d5 ∗ owns (c : Thread nD τ) arg8 fullShare xs0 ∗ owns (c : Thread nD τ) arg9 fullShare xs1 ∗ owns (c : Thread nD τ) arg10 fullShare xs2
        ∗ (iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d4 ∗ owns (c : Thread nD τ) arg7 fullShare d5 ∗ owns (c : Thread nD τ) arg8 fullShare xs0 ∗ owns (c : Thread nD τ) arg9 fullShare (VecWindow.put xs1 ![0, 512 * (i 1).val] S512x512.size (k0_pay3 xs0 x1 x2)) ∗ owns (c : Thread nD τ) arg10 fullShare (k0_pay6 xs0 x1 x2 xs2)) -∗ K ⟨⟩))
      ⊢ wp frame (wpE (defs₀ (F := F)) Variants.none c none) E (cc0_swiglu_fp8_quant i arg2 harg2 arg3 harg3 arg4 harg4 arg5 harg5 arg6 harg6 arg7 harg7 arg8 harg8 arg9 harg9 arg10 harg10) K := by
  simp only [cc0_swiglu_fp8_quant_eq_skeleton]; unfold cc0_swiglu_fp8_quant_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fS0, %hfS0, HS0⟩, ⟨%fS1, %hfS1, HS1⟩, ⟨%fS2, %hfS2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfS0; obtain rfl := harg9.eq_unread hfS1; obtain rfl := harg10.eq_unread hfS2
  have e3 : View.readAt (Elt F) arg3.view (Rect.unit ![0, 0] S2048x512.size inb_S2048x512_S2048x512_0_0).toLoadRect (harg3.unread x1) = x1 := (View.readAt_full ..).trans (harg3.read_unread _)
  have e4 : View.readAt (Elt F) arg4.view (Rect.unit ![0, 0] S2048x512.size inb_S2048x512_S2048x512_0_0).toLoadRect (harg4.unread x2) = x2 := (View.readAt_full ..).trans (harg4.read_unread _)
  have e8 : View.readAt (Elt F) arg8.view (Rect.unit ![0, 0] S512x2048.size inb_S512x2048_S512x2048_0_0).toLoadRect (harg8.unread xs0) = xs0 := (View.readAt_full ..).trans (harg8.read_unread _)
  have e10 : View.readAt (Elt F) arg10.view (Rect.unit ![0, 0] S512x1.size inb_S512x1_S512x1_0_0).toLoadRect (harg10.unread xs2) = xs2 := (View.readAt_full ..).trans (harg10.read_unread _)
  sl_exec (disch := first | sl_exact hc0 | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H4]
  · iexists _; isplitr; swap; · iexact H4
    ipureintro
    exact harg6.read_unread _
  isplitl [H5]
  · iexists _; isplitr; swap; · iexact H5
    ipureintro
    exact harg7.read_unread _
  isplitl [HS0]
  · iexists _; isplitr; swap; · iexact HS0
    ipureintro
    exact harg8.read_unread _
  isplitl [HS1]
  · iexists _; isplitr; swap; · iexact HS1
    ipureintro
    refine (View.read_writes_cons_put _ _ _ _ _ (k0_off1_eq i)).trans ?_
    rw [View.writes_nil, harg9.read_unread]
  iexists _; isplitr; swap; · iexact HS2
  ipureintro
  exact View.read_writes_full ..

end Cert.Kernel.Body

end
-- ==== Proof.BitsRunC.lean ====
/- The run of the un-idealized kernel's body in case C of its conditionals, with the contents of every buffer named. -/
module

public import proofs.«01_k».proof.Proof.BitsConds
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scales the kernel stores for the row maxima `v`. -/
def scale (v : Vec F S512x1 .f32) : FVec F S512x1 .f32 := k0_pay14 (k0_pay8 v) (k0_pay9 v) (k0_pay10 v) (k0_pay11 v)

/-- The reciprocal scales the kernel multiplies by, for the row maxima `v`. -/
def inv (v : Vec F S512x1 .f32) : FVec F S512x1 .f32 := k0_pay15 (k0_pay8 v) (k0_pay9 v) (k0_pay10 v) (k0_pay11 v)

/-- The codes the kernel stores for the row maxima `v` and the gated product `h` of the row block. -/
def codes (v : Vec F S512x1 .f32) (h : Vec F S512x4096 .f32) : FVec F S512x4096 .fp8e4m3 := k0_pay7 (inv v) h

set_option maxHeartbeats 4000000 in
/-- The body at the last point of a row block: as at an inner point, and then the three outputs — the row maxima, the
    codes of the whole row block, the scales — are stored. -/
theorem runC (c : Dev nD) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x1 .f32) (harg5 : arg5.IsWhole) (arg6 : Memref sig .tc .vmem S512x4096 .fp8e4m3) (harg6 : arg6.IsWhole) (arg7 : Memref sig .tc .vmem S512x1 .f32) (harg7 : arg7.IsWhole) (arg8 : Memref sig .tc .vmem S512x2048 .bf16) (harg8 : arg8.IsWhole) (arg9 : Memref sig .tc .vmem S512x4096 .f32) (harg9 : arg9.IsWhole) (arg10 : Memref sig .tc .vmem S512x1 .f32) (harg10 : arg10.IsWhole) (hc0 : ¬cond0_0 i) (hc1 : ¬cond0_1 i) (hc2 : cond0_2 i) (hc3 : cond0_3 i)
    (x0 : Vec F S512x2048 .f32) (x1 : Vec F S2048x512 .bf16) (x2 : Vec F S2048x512 .bf16) (d3 : Vec F S512x1 .f32) (d4 : Vec F S512x4096 .fp8e4m3) (d5 : Vec F S512x1 .f32) (xs0 : Vec F S512x2048 .bf16) (xs1 : Vec F S512x4096 .f32) (xs2 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d3 ∗ owns (c : Thread nD τ) arg6 fullShare d4 ∗ owns (c : Thread nD τ) arg7 fullShare d5 ∗ owns (c : Thread nD τ) arg8 fullShare xs0 ∗ owns (c : Thread nD τ) arg9 fullShare xs1 ∗ owns (c : Thread nD τ) arg10 fullShare xs2
        ∗ (iprop(owns (c : Thread nD τ) arg2 fullShare x0 ∗ owns (c : Thread nD τ) arg3 fullShare x1 ∗ owns (c : Thread nD τ) arg4 fullShare x2 ∗ owns (c : Thread nD τ) arg5 fullShare (k0_pay6 xs0 x1 x2 xs2) ∗ owns (c : Thread nD τ) arg6 fullShare (codes (k0_pay6 xs0 x1 x2 xs2) (VecWindow.put xs1 ![0, 512 * (i 1).val] S512x512.size (k0_pay3 xs0 x1 x2))) ∗ owns (c : Thread nD τ) arg7 fullShare (scale (k0_pay6 xs0 x1 x2 xs2)) ∗ owns (c : Thread nD τ) arg8 fullShare xs0 ∗ owns (c : Thread nD τ) arg9 fullShare (VecWindow.put xs1 ![0, 512 * (i 1).val] S512x512.size (k0_pay3 xs0 x1 x2)) ∗ owns (c : Thread nD τ) arg10 fullShare (k0_pay6 xs0 x1 x2 xs2)) -∗ K ⟨⟩))
      ⊢ wp frame (wpE (defs₀ (F := F)) Variants.none c none) E (cc0_swiglu_fp8_quant i arg2 harg2 arg3 harg3 arg4 harg4 arg5 harg5 arg6 harg6 arg7 harg7 arg8 harg8 arg9 harg9 arg10 harg10) K := by
  simp only [cc0_swiglu_fp8_quant_eq_skeleton]; unfold cc0_swiglu_fp8_quant_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fS0, %hfS0, HS0⟩, ⟨%fS1, %hfS1, HS1⟩, ⟨%fS2, %hfS2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfS0; obtain rfl := harg9.eq_unread hfS1; obtain rfl := harg10.eq_unread hfS2
  have e3 : View.readAt (Elt F) arg3.view (Rect.unit ![0, 0] S2048x512.size inb_S2048x512_S2048x512_0_0).toLoadRect (harg3.unread x1) = x1 := (View.readAt_full ..).trans (harg3.read_unread _)
  have e4 : View.readAt (Elt F) arg4.view (Rect.unit ![0, 0] S2048x512.size inb_S2048x512_S2048x512_0_0).toLoadRect (harg4.unread x2) = x2 := (View.readAt_full ..).trans (harg4.read_unread _)
  have e8 : View.readAt (Elt F) arg8.view (Rect.unit ![0, 0] S512x2048.size inb_S512x2048_S512x2048_0_0).toLoadRect (harg8.unread xs0) = xs0 := (View.readAt_full ..).trans (harg8.read_unread _)
  have e10 : View.readAt (Elt F) arg10.view (Rect.unit ![0, 0] S512x1.size inb_S512x1_S512x1_0_0).toLoadRect (harg10.unread xs2) = xs2 := (View.readAt_full ..).trans (harg10.read_unread _)
  sl_exec (disch := first | sl_exact hc0 | sl_exact hc1 | sl_exact hc2 | sl_exact hc3)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    have ev : runC.sl.v31 c arg10 x1 x2 xs0 xs2 = k0_pay6 xs0 x1 x2 xs2 := by
      unfold runC.sl.v31 runC.sl.HS2_1
      exact View.readCov_full ..
    rw [ev]
    exact View.read_writes_full ..
  isplitl [H4]
  · iexists _; isplitr; swap; · iexact H4
    ipureintro
    have ev : runC.sl.v31 c arg10 x1 x2 xs0 xs2 = k0_pay6 xs0 x1 x2 xs2 := by
      unfold runC.sl.v31 runC.sl.HS2_1
      exact View.readCov_full ..
    have eh : runC.sl.v114 c i arg9 harg9 x1 x2 xs0 xs1 = VecWindow.put xs1 ![0, 512 * (i 1).val] S512x512.size (k0_pay3 xs0 x1 x2) := by
      unfold runC.sl.v114 runC.sl.HS1_1
      refine (View.readAt_full ..).trans ?_
      refine (View.read_writes_cons_put _ _ _ _ _ (k0_off1_eq i)).trans ?_
      rw [View.writes_nil, harg9.read_unread]
    unfold runC.sl.r_4 runC.sl.r runC.sl.r_1 runC.sl.r_2 runC.sl.r_3
    rw [ev, eh]
    exact View.read_writes_full ..
  isplitl [H5]
  · iexists _; isplitr; swap; · iexact H5
    ipureintro
    have ev : runC.sl.v31 c arg10 x1 x2 xs0 xs2 = k0_pay6 xs0 x1 x2 xs2 := by
      unfold runC.sl.v31 runC.sl.HS2_1
      exact View.readCov_full ..
    unfold runC.sl.r runC.sl.r_1 runC.sl.r_2 runC.sl.r_3
    rw [ev]
    exact View.read_writes_full ..
  isplitl [HS0]
  · iexists _; isplitr; swap; · iexact HS0
    ipureintro
    exact harg8.read_unread _
  isplitl [HS1]
  · iexists _; isplitr; swap; · iexact HS1
    ipureintro
    unfold runC.sl.HS1_1
    refine (View.read_writes_cons_put _ _ _ _ _ (k0_off1_eq i)).trans ?_
    rw [View.writes_nil, harg9.read_unread]
  iexists _; isplitr; swap; · iexact HS2
  ipureintro
  unfold runC.sl.HS2_1
  exact View.read_writes_full ..

end Cert.Kernel.Body

end
-- ==== Proof.BitsData.lean ====
/- What the un-idealized kernel's scratch and outputs hold point by point, and the body obligation over it. -/
module

public import proofs.«01_k».proof.Proof.BitsRunA
public import proofs.«01_k».proof.Proof.BitsRunB
public import proofs.«01_k».proof.Proof.BitsRunC
public import Idealize.ShloMosaic.Lib.Claim
public import Idealize.ShloMosaic.Lib.Pipeline.ValueKit
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.WritesUnit

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch holds -/

/-- After point `n`: the cast x block of the point's row block, and the running row maxima over the column blocks done. -/
def st (c : Dev nD) : (n : ℕ) → n < cfg0.N → Vec F S512x2048 .bf16 × Vec F S512x1 .f32
  | 0, h => (k0_pay1 (iblk m c 0 ⟨0, h⟩), k0_pay5 (k0_pay1 (iblk m c 0 ⟨0, h⟩)) (iblk m c 1 ⟨0, h⟩) (iblk m c 2 ⟨0, h⟩))
  | n + 1, h =>
    if (n + 1) % 8 = 0 then
      (k0_pay1 (iblk m c 0 ⟨n + 1, h⟩), k0_pay5 (k0_pay1 (iblk m c 0 ⟨n + 1, h⟩)) (iblk m c 1 ⟨n + 1, h⟩) (iblk m c 2 ⟨n + 1, h⟩))
    else
      ((st c n (Nat.lt_of_succ_lt h)).1,
        k0_pay6 (st c n (Nat.lt_of_succ_lt h)).1 (iblk m c 1 ⟨n + 1, h⟩) (iblk m c 2 ⟨n + 1, h⟩) (st c n (Nat.lt_of_succ_lt h)).2)

/-- At a row block's first point both are computed afresh. -/
theorem st_first (c : Dev nD) (t : Fin cfg0.N) (h : t.val % 8 = 0) :
    st m c t.val t.isLt = (k0_pay1 (iblk m c 0 t), k0_pay5 (k0_pay1 (iblk m c 0 t)) (iblk m c 1 t) (iblk m c 2 t)) := by
  obtain ⟨n, hn⟩ := t
  cases n with
  | zero => rfl
  | succ n => exact if_pos h

/-- At the others the cast block stays and the maxima are raised. -/
theorem st_next (c : Dev nD) (t : Fin cfg0.N) (h : ¬t.val % 8 = 0) :
    st m c t.val t.isLt = ((st m c (t.val - 1) (by omega)).1,
      k0_pay6 (st m c (t.val - 1) (by omega)).1 (iblk m c 1 t) (iblk m c 2 t) (st m c (t.val - 1) (by omega)).2) := by
  obtain ⟨n, hn⟩ := t
  cases n with
  | zero => exact absurd (Nat.zero_mod _) h
  | succ n => exact if_neg h

/-- The gated product's 512 columns computed at point `t`. -/
def hpart (c : Dev nD) (n : ℕ) (h : n < cfg0.N) : FVec F S512x512 .f32 :=
  k0_pay3 (st m c n h).1 (iblk m c 1 ⟨n, h⟩) (iblk m c 2 ⟨n, h⟩)

/-- Column block `n % 8` lies inside the 4096 columns. -/
theorem colInb (n : ℕ) : ∀ a, (![0, 512 * (n % 8)] : Fin 2 → ℕ) a + S512x512.size a ≤ S512x4096.size a := by
  intro a
  match a with
  | ⟨0, _⟩ => show 0 + 512 ≤ 512; omega
  | ⟨1, _⟩ => show 512 * (n % 8) + 512 ≤ 4096; omega

/-- After point `n` the second scratch `d` holds, for each point `u` of the row block so far, that point's 512 columns. -/
def HP (c : Dev nD) (n : ℕ) (d : Vec F S512x4096 .f32) : Prop :=
  ∀ (u : ℕ) (h : u < cfg0.N), u ≤ n → u / 8 = n / 8 →
    VecWindow.window d ![0, 512 * (u % 8)] S512x512.size (colInb u) = hpart m c u h

/-- The whole row block of the gated product, as the second scratch holds it after the row block's last point. -/
def hfull (c : Dev nD) (t : Fin cfg0.N) : Vec F S512x4096 .f32 := fun y =>
  hpart m c (8 * (t.val / 8) + (y 1).val / 512)
    (by have h1 : (y 1).val < 4096 := (y 1).isLt
        have ht : t.val < 256 := lt_of_lt_of_eq t.isLt N_0
        have : cfg0.N = 256 := N_0
        omega)
    (ix2 (⟨(y 0).val, (y 0).isLt⟩ : Fin 512) (⟨(y 1).val % 512, Nat.mod_lt _ (by decide)⟩ : Fin 512))

/-- Storing point `t`'s columns keeps `HP`, at the row block's first point whatever was there. -/
theorem HP_first (c : Dev nD) (t : Fin cfg0.N) (h0 : t.val % 8 = 0) (d : Vec F S512x4096 .f32) :
    HP m c t.val (VecWindow.put d ![0, 512 * (t.val % 8)] S512x512.size (hpart m c t.val t.isLt)) := by
  intro u hu hle hb
  have e : u = t.val := by omega
  subst e
  exact VecWindow.window_put_same d _ _ _ _

/-- At the others it extends what the points before left. -/
theorem HP_next (c : Dev nD) (t : Fin cfg0.N) (h0 : ¬t.val % 8 = 0) (d : Vec F S512x4096 .f32) (hd : HP m c (t.val - 1) d) :
    HP m c t.val (VecWindow.put d ![0, 512 * (t.val % 8)] S512x512.size (hpart m c t.val t.isLt)) := by
  intro u hu hle hb
  by_cases e : u = t.val
  · subst e
    exact VecWindow.window_put_same d _ _ _ _
  · refine (VecWindow.window_put_of_disjoint d _ _ _ _ (colInb u) _ 1 ?_).trans (hd u hu (by omega) (by omega))
    show 512 * (u % 8) + 512 ≤ 512 * (t.val % 8) ∨ 512 * (t.val % 8) + 512 ≤ 512 * (u % 8)
    omega

/-- After the row block's last point the second scratch is the whole row block. -/
theorem HP_last (c : Dev nD) (t : Fin cfg0.N) (h7 : t.val % 8 = 7) (d : Vec F S512x4096 .f32) (hd : HP m c t.val d) :
    d = hfull m c t := by
  funext y
  have h1 : (y 1).val < 4096 := (y 1).isLt
  have ht : t.val < 256 := lt_of_lt_of_eq t.isLt N_0
  have hN : cfg0.N = 256 := N_0
  have e := hd (8 * (t.val / 8) + (y 1).val / 512) (by omega) (by omega) (by omega)
  unfold hfull
  rw [← e]
  refine congrArg d (funext fun a => Fin.ext ?_)
  match a with
  | ⟨0, _⟩ => show (y 0).val = 0 + 1 * (y 0).val; omega
  | ⟨1, _⟩ => show (y 1).val = 512 * ((8 * (t.val / 8) + (y 1).val / 512) % 8) + 1 * ((y 1).val % 512); omega

/-! ## The invariant and the proof data -/

/-- The invariant before position `n`: before the first point every scratch at anything; afterwards the first and third
    scratch at `st`, the second at something `HP` describes. -/
def PhiS (c : Dev nD) : (n : ℕ) → n ≤ cfg0.N → sProp 𝕄
  | 0, _ => Pipeline.ΦA spec0 c
  | n + 1, hn => iprop(iprop(owns (c : Thread nD τ) scM0_0 fullShare ((st m c n hn).1) ∗ (∃ d, iprop(owns (c : Thread nD τ) scM0_1 fullShare d ∗ ⌜HP m c n d⌝)) ∗ owns (c : Thread nD τ) scM0_2 fullShare ((st m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((st m c n hn).1) ∗ (∃ d, iprop(owns (c : Thread nD τ) scM0_1 fullShare d ∗ ⌜HP m c n d⌝)) ∗ owns (c : Thread nD τ) scM0_2 fullShare ((st m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((st m c (n - 1) (by omega)).1) ∗ (∃ d, iprop(owns (c : Thread nD τ) scM0_1 fullShare d ∗ ⌜HP m c (n - 1) d⌝)) ∗ owns (c : Thread nD τ) scM0_2 fullShare ((st m c (n - 1) (by omega)).2)) ∗ (∃ r, prngReg c r)) := by
  cases n with
  | zero => exact absurd rfl hz
  | succ n => rfl

/-- The proof data: the arrays as the region finds them; after the body each input's buffer at its block, the outputs'
    buffers (where they are written back) at the row maxima, the codes and the scales of the row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (st m c t.val t.isLt).2
    | ⟨4, _⟩ => codes (st m c t.val t.isLt).2 (hfull m c t)
    | ⟨5, _⟩ => scale (st m c t.val t.isLt).2
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (st m c t.val t.isLt).2 := by dsimp only [dats]
theorem after0_4 (c : Dev nD) (t : Fin cfg0.N) : (dats m 0 c).after 4 t = codes (st m c t.val t.isLt).2 (hfull m c t) := by dsimp only [dats]
theorem after0_5 (c : Dev nD) (t : Fin cfg0.N) : (dats m 0 c).after 5 t = scale (st m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The grid's second coordinate at point `t`. -/
theorem coord1 (t : Fin cfg0.N) : (grid0.coords t 1).val = t.val % 8 := by
  have e1 : (grid0.coords t 1).val = t.val / 1 % 8 := Pipeline.Grid.coords_val t 1 (by decide) rfl
  omega

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input's buffer is handed back at its block. -/
theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]

/-- Output 0 is idle away from a row block's last point, -/
theorem idleAt0_3 (t : Fin cfg0.N) (h : ¬t.val % 8 = 7) : cfg0.idle 3 (grid0.coords t) = true := by
  have hc : ¬k0_cond4 (grid0.coords t) = 1#1 := fun hh => h ((hcond0_3 t).mp hh)
  show (!(k0_cond4 (grid0.coords t) == 1#1)) = true
  rw [beq_eq_false_iff_ne.mpr hc]; rfl
/-- and live at it. -/
theorem liveAt0_3 (t : Fin cfg0.N) (h : t.val % 8 = 7) : cfg0.idle 3 (grid0.coords t) = false := by
  have hc : k0_cond4 (grid0.coords t) = 1#1 := (hcond0_3 t).mpr h
  show (!(k0_cond4 (grid0.coords t) == 1#1)) = false
  rw [hc]; rfl
theorem leaves_idle3 (c : Dev nD) (t : Fin cfg0.N) (h : ¬t.val % 8 = 7) :
    (dats m 0 c).leavesExact 3 t = iprop(∃ d, owns (c : Thread nD τ) (ms0_3 t) fullShare ((dats m 0 c).before 3 t d)) :=
  (dats m 0 c).leavesExact_idle 3 t (idleAt0_3 t h)
    (Bool.eq_false_iff.mpr fun hf => h ((flush0_3 t).mp hf))
theorem leaves_live3 (c : Dev nD) (t : Fin cfg0.N) (h : t.val % 8 = 7) :
    (dats m 0 c).leavesExact 3 t = owns (c : Thread nD τ) (ms0_3 t) fullShare ((dats m 0 c).after 3 t) := by
  unfold Dat.leavesExact; rw [liveAt0_3 t h]

/-- Output 1 is idle away from a row block's last point, -/
theorem idleAt0_4 (t : Fin cfg0.N) (h : ¬t.val % 8 = 7) : cfg0.idle 4 (grid0.coords t) = true := by
  have hc : ¬k0_cond4 (grid0.coords t) = 1#1 := fun hh => h ((hcond0_3 t).mp hh)
  show (!(k0_cond4 (grid0.coords t) == 1#1)) = true
  rw [beq_eq_false_iff_ne.mpr hc]; rfl
/-- and live at it. -/
theorem liveAt0_4 (t : Fin cfg0.N) (h : t.val % 8 = 7) : cfg0.idle 4 (grid0.coords t) = false := by
  have hc : k0_cond4 (grid0.coords t) = 1#1 := (hcond0_3 t).mpr h
  show (!(k0_cond4 (grid0.coords t) == 1#1)) = false
  rw [hc]; rfl
theorem leaves_idle4 (c : Dev nD) (t : Fin cfg0.N) (h : ¬t.val % 8 = 7) :
    (dats m 0 c).leavesExact 4 t = iprop(∃ d, owns (c : Thread nD τ) (ms0_4 t) fullShare ((dats m 0 c).before 4 t d)) :=
  (dats m 0 c).leavesExact_idle 4 t (idleAt0_4 t h)
    (Bool.eq_false_iff.mpr fun hf => h ((flush0_4 t).mp hf))
theorem leaves_live4 (c : Dev nD) (t : Fin cfg0.N) (h : t.val % 8 = 7) :
    (dats m 0 c).leavesExact 4 t = owns (c : Thread nD τ) (ms0_4 t) fullShare ((dats m 0 c).after 4 t) := by
  unfold Dat.leavesExact; rw [liveAt0_4 t h]

/-- Output 2 is idle away from a row block's last point, -/
theorem idleAt0_5 (t : Fin cfg0.N) (h : ¬t.val % 8 = 7) : cfg0.idle 5 (grid0.coords t) = true := by
  have hc : ¬k0_cond4 (grid0.coords t) = 1#1 := fun hh => h ((hcond0_3 t).mp hh)
  show (!(k0_cond4 (grid0.coords t) == 1#1)) = true
  rw [beq_eq_false_iff_ne.mpr hc]; rfl
/-- and live at it. -/
theorem liveAt0_5 (t : Fin cfg0.N) (h : t.val % 8 = 7) : cfg0.idle 5 (grid0.coords t) = false := by
  have hc : k0_cond4 (grid0.coords t) = 1#1 := (hcond0_3 t).mpr h
  show (!(k0_cond4 (grid0.coords t) == 1#1)) = false
  rw [hc]; rfl
theorem leaves_idle5 (c : Dev nD) (t : Fin cfg0.N) (h : ¬t.val % 8 = 7) :
    (dats m 0 c).leavesExact 5 t = iprop(∃ d, owns (c : Thread nD τ) (ms0_5 t) fullShare ((dats m 0 c).before 5 t d)) :=
  (dats m 0 c).leavesExact_idle 5 t (idleAt0_5 t h)
    (Bool.eq_false_iff.mpr fun hf => h ((flush0_5 t).mp hf))
theorem leaves_live5 (c : Dev nD) (t : Fin cfg0.N) (h : t.val % 8 = 7) :
    (dats m 0 c).leavesExact 5 t = owns (c : Thread nD τ) (ms0_5 t) fullShare ((dats m 0 c).after 5 t) := by
  unfold Dat.leavesExact; rw [liveAt0_5 t h]

set_option maxHeartbeats 1600000 in
/-- The body at the first point of all. -/
theorem sound_zero (c : Dev nD) (t : Fin cfg0.N) (hz : t.val = 0) (h0 : t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2]
  have h7 : ¬t.val % 8 = 7 := by omega
  rw [leaves_idle3 m c t h7, leaves_idle4 m c t h7, leaves_idle5 m c t h7]
  rw [PhiS_castSucc m c t, PhiS_zero m c _ _ hz, PhiA0_eq]
  have est := st_first m c t h0
  iintro ⟨⟨⟨⟨%xs0, HS0⟩, ⟨%xs1, HS1⟩, ⟨%xs2, HS2⟩⟩, Hg⟩, Ho, ⟨%d0, H0⟩, ⟨%d1, H1⟩, ⟨%d2, H2⟩, ⟨%d3, H3⟩, ⟨%d4, H4⟩, ⟨%d5, H5⟩⟩
  have ehp := HP_first m c t h0 xs1
  unfold hpart at ehp
  rw [est] at ehp ⊢
  rw [← coord1 t] at ehp
  iapply (runA c (grid0.coords t) _ _ _ _ _ _ _ _ _ _ _ _ _ _ _ _ _ _ ((hcond0_0 t).mpr h0) ((hcond0_1 t).mpr h0) (fun h => absurd ((hcond0_2 t).mp h) (by omega)) (fun h => absurd ((hcond0_3 t).mp h) (by omega)) _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]
      · iexists _; isplitl; · iexact HS1
        ipureintro; exact ehp
      iexact HS2
    iexact Hg
  isplitl [Ho]; · iexact Ho
  isplitl [H0]; · iexact H0
  isplitl [H1]; · iexact H1
  isplitl [H2]; · iexact H2
  isplitl [H3]; · iexists _; iexact H3
  isplitl [H4]; · iexists _; iexact H4
  iexists _; iexact H5

set_option maxHeartbeats 1600000 in
/-- The body at a later row block's first point. -/
theorem sound_first (c : Dev nD) (t : Fin cfg0.N) (hz : t.val ≠ 0) (h0 : t.val % 8 = 0) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2]
  have h7 : ¬t.val % 8 = 7 := by omega
  rw [leaves_idle3 m c t h7, leaves_idle4 m c t h7, leaves_idle5 m c t h7]
  rw [PhiS_castSucc m c t, PhiS_pos m c _ _ hz]
  have est := st_first m c t h0
  iintro ⟨⟨⟨HS0, ⟨%xs1, HS1, %hHP⟩, HS2⟩, Hg⟩, Ho, ⟨%d0, H0⟩, ⟨%d1, H1⟩, ⟨%d2, H2⟩, ⟨%d3, H3⟩, ⟨%d4, H4⟩, ⟨%d5, H5⟩⟩
  have ehp := HP_first m c t h0 xs1
  unfold hpart at ehp
  rw [est] at ehp ⊢
  rw [← coord1 t] at ehp
  iapply (runA c (grid0.coords t) _ _ _ _ _ _ _ _ _ _ _ _ _ _ _ _ _ _ ((hcond0_0 t).mpr h0) ((hcond0_1 t).mpr h0) (fun h => absurd ((hcond0_2 t).mp h) (by omega)) (fun h => absurd ((hcond0_3 t).mp h) (by omega)) _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]
      · iexists _; isplitl; · iexact HS1
        ipureintro; exact ehp
      iexact HS2
    iexact Hg
  isplitl [Ho]; · iexact Ho
  isplitl [H0]; · iexact H0
  isplitl [H1]; · iexact H1
  isplitl [H2]; · iexact H2
  isplitl [H3]; · iexists _; iexact H3
  isplitl [H4]; · iexists _; iexact H4
  iexists _; iexact H5

set_option maxHeartbeats 1600000 in
/-- The body at an inner point of a row block. -/
theorem sound_inner (c : Dev nD) (t : Fin cfg0.N) (hz : t.val ≠ 0) (h0 : ¬t.val % 8 = 0) (h7 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2]
  rw [leaves_idle3 m c t h7, leaves_idle4 m c t h7, leaves_idle5 m c t h7]
  rw [PhiS_castSucc m c t, PhiS_pos m c _ _ hz]
  have est := st_next m c t h0
  iintro ⟨⟨⟨HS0, ⟨%xs1, HS1, %hHP⟩, HS2⟩, Hg⟩, Ho, ⟨%d0, H0⟩, ⟨%d1, H1⟩, ⟨%d2, H2⟩, ⟨%d3, H3⟩, ⟨%d4, H4⟩, ⟨%d5, H5⟩⟩
  have ehp := HP_next m c t h0 xs1 hHP
  unfold hpart at ehp
  rw [est] at ehp ⊢
  rw [← coord1 t] at ehp
  iapply (runB c (grid0.coords t) _ _ _ _ _ _ _ _ _ _ _ _ _ _ _ _ _ _ (fun h => h0 ((hcond0_0 t).mp h)) (fun h => h0 ((hcond0_1 t).mp h)) ((hcond0_2 t).mpr (by omega)) (fun h => h7 ((hcond0_3 t).mp h)) _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]
      · iexists _; isplitl; · iexact HS1
        ipureintro; exact ehp
      iexact HS2
    iexact Hg
  isplitl [Ho]; · iexact Ho
  isplitl [H0]; · iexact H0
  isplitl [H1]; · iexact H1
  isplitl [H2]; · iexact H2
  isplitl [H3]; · iexists _; iexact H3
  isplitl [H4]; · iexists _; iexact H4
  iexists _; iexact H5

set_option maxHeartbeats 1600000 in
/-- The body at a row block's last point. -/
theorem sound_last (c : Dev nD) (t : Fin cfg0.N) (hz : t.val ≠ 0) (h0 : ¬t.val % 8 = 0) (h7 : t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2]
  rw [leaves_live3 m c t h7, leaves_live4 m c t h7, leaves_live5 m c t h7, after0_3, after0_4, after0_5]
  rw [PhiS_castSucc m c t, PhiS_pos m c _ _ hz]
  have est := st_next m c t h0
  iintro ⟨⟨⟨HS0, ⟨%xs1, HS1, %hHP⟩, HS2⟩, Hg⟩, Ho, ⟨%d0, H0⟩, ⟨%d1, H1⟩, ⟨%d2, H2⟩, ⟨%d3, H3⟩, ⟨%d4, H4⟩, ⟨%d5, H5⟩⟩
  have ehp := HP_next m c t h0 xs1 hHP
  unfold hpart at ehp
  rw [est] at ehp ⊢
  rw [← coord1 t] at ehp
  have elast := HP_last m c t h7 _ ehp
  iapply (runC c (grid0.coords t) _ _ _ _ _ _ _ _ _ _ _ _ _ _ _ _ _ _ (fun h => h0 ((hcond0_0 t).mp h)) (fun h => h0 ((hcond0_1 t).mp h)) ((hcond0_2 t).mpr (by omega)) ((hcond0_3 t).mpr h7) _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]
      · iexists _; isplitl; · iexact HS1
        ipureintro; exact ehp
      iexact HS2
    iexact Hg
  isplitl [Ho]; · iexact Ho
  isplitl [H0]; · iexact H0
  isplitl [H1]; · iexact H1
  isplitl [H2]; · iexact H2
  isplitl [H3]; · iexact H3
  isplitl [H4]
  · rw [← elast]; iexact H4
  iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · by_cases hz : t.val = 0
    · exact sound_zero m c t hz h0
    · exact sound_first m c t hz h0
  · have hz : t.val ≠ 0 := fun h => h0 (by rw [h])
    by_cases h7 : t.val % 8 = 7
    · exact sound_last m c t hz h0 h7
    · exact sound_inner m c t hz h0 h7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back. -/
theorem hout (c : Dev nD) : (dats m 0 c).Φ (Fin.last cfg0.N) ⊢ Pipeline.ΦA spec0 c := by
  have ht : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, ⟨%xs1, HS1, %hHP⟩, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- Every weakly fair execution of the un-idealized kernel terminates, every final state has the pipeline's arrays at the
    proof data's and every other unscoped buffer as the region found it, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ))
    ((θ_run defs _ _).mono (fun _ h => h.2) (run_main_quiescent m ρ))

end Cert.Kernel.Body

end
-- ==== Proof.Ladder.lean ====
/- The arithmetic of the power-of-two scale, one number at a time: the exponent found bit by bit, the exponent found by
   counting powers of two, and that both give one scale and one reciprocal scale. -/
module
public import Idealize.ShloMosaic.PureOps.Ideal
public import Idealize.ShloMosaic.PureOps.Ideal.Laws

@[expose] public section

set_option maxRecDepth 16384

noncomputable section

namespace Cert.Ladder

open Idealize.ShloMosaic

/-! ## Powers of two as bit patterns -/

/-- The float whose exponent field is `n` and whose other bits are zero. -/
def thr (n : ℕ) : EReal := Ideal.ofBits .f32 (BitVec.ofNat 32 n <<< 23)

/-- The three fields of that pattern. -/
theorem thr_fields : ∀ n : Fin 256, (BitVec.ofNat 32 n.val <<< 23).extractLsb' 31 1 = 0#1
    ∧ ((BitVec.ofNat 32 n.val <<< 23).extractLsb' 23 8).toNat = n.val ∧ ((BitVec.ofNat 32 n.val <<< 23).extractLsb' 0 23).toNat = 0 := by
  decide +kernel

/-- A pattern with a zero sign and a zero fraction reads as its exponent field says. -/
theorem ofBits_of_fields (b : BitVec 32) (n : ℕ) (h1 : b.extractLsb' 31 1 = 0#1) (h2 : (b.extractLsb' 23 8).toNat = n)
    (h3 : (b.extractLsb' 0 23).toNat = 0) :
    Ideal.ofBits .f32 b = if n = 255 then ⊤ else if n = 0 then 0 else (((2 : ℝ) ^ ((n : ℤ) - 127) : ℝ) : EReal) := by
  have e : Ideal.ofBits .f32 b = Ideal.ieee (w := 32) 8 23 b := rfl
  rw [e]
  unfold Ideal.ieee
  simp only [show (8 + 23 : ℕ) = 31 from rfl, h1, h2, h3]
  by_cases c1 : n = 255
  · subst c1; simp
  · by_cases c2 : n = 0
    · subst c2; simp
    · rw [if_neg (by simpa using c1), if_neg c2, if_neg c1, if_neg c2]
      congr 1
      have e : ((n : ℤ) - (2 ^ (8 - 1) - 1) - (23 : ℕ)) = ((n : ℤ) - 127) - 23 := by norm_num
      rw [e, zpow_sub₀ (by norm_num : (2 : ℝ) ≠ 0)]
      norm_num
      try field_simp

theorem thr_eq (n : ℕ) (h : n < 256) : thr n = if n = 255 then ⊤ else if n = 0 then 0 else (((2 : ℝ) ^ ((n : ℤ) - 127) : ℝ) : EReal) := by
  obtain ⟨a, b, c⟩ := thr_fields ⟨n, h⟩
  exact ofBits_of_fields _ n a b c

/-- Between 1 and 254 it is a power of two. -/
theorem thr_pow (n : ℕ) (h1 : 1 ≤ n) (h2 : n ≤ 254) : thr n = (((2 : ℝ) ^ ((n : ℤ) - 127) : ℝ) : EReal) := by
  rw [thr_eq n (by omega), if_neg (by omega), if_neg (by omega)]

/-- At 255 it is infinity, -/
theorem thr_top : thr 255 = ⊤ := by
  rw [thr_eq 255 (by omega), if_pos rfl]

/-- and at 0 zero. -/
theorem thr_zero : thr 0 = 0 := by
  rw [thr_eq 0 (by omega), if_neg (by omega), if_pos rfl]

theorem thr_one_eq : thr 127 = 1 := by
  rw [thr_pow 127 (by omega) (by omega)]
  norm_num

/-- The patterns are in order. -/
theorem thr_lt {a b : ℕ} (h1 : 1 ≤ a) (h : a < b) (h2 : b ≤ 255) : thr a < thr b := by
  rw [thr_pow a h1 (by omega)]
  rcases Nat.lt_or_ge b 255 with hb | hb
  · rw [thr_pow b (by omega) (by omega), EReal.coe_lt_coe_iff]
    exact zpow_lt_zpow_right₀ (by norm_num) (by omega)
  · obtain rfl : b = 255 := by omega
    rw [thr_top]
    exact EReal.coe_lt_top _

theorem thr_le {a b : ℕ} (h1 : 1 ≤ a) (h : a ≤ b) (h2 : b ≤ 255) : thr a ≤ thr b := by
  rcases Nat.lt_or_ge a b with h' | h'
  · exact (thr_lt h1 h' h2).le
  · obtain rfl : a = b := by omega
    exact le_rfl

/-! ## The exponent bit by bit -/

/-- One step: the field `e` with the bit `b` if the number reaches that power, else without it. -/
def kstep (t : EReal) (b e : BitVec 32) : BitVec 32 :=
  Scalar.select (Ideal.cmp .oge t (Ideal.ofBits .f32 (IntOp.shli .vector (IntOp.ori e b) 23#32))) (IntOp.ori e b) e

/-- The eight steps. -/
def kE (t : EReal) : BitVec 32 :=
  kstep t 1#32 (kstep t 2#32 (kstep t 4#32 (kstep t 8#32 (kstep t 16#32 (kstep t 32#32 (kstep t 64#32 (kstep t 128#32 0#32)))))))

/-- `n` is the field of `t` up to the bits below `w`: `t` reaches the power `n` (unless `n` is zero) and not the power `n + w`. -/
def Reached (t : EReal) (w n : ℕ) : Prop :=
  n + w ≤ 256 ∧ n % w = 0 ∧ (n = 0 ∨ thr n ≤ t) ∧ (n + w = 256 ∨ t < thr (n + w))

/-- Setting a bit below all set ones adds it. -/
theorem or_add : ∀ k : Fin 8, ∀ e : Fin 256, e.val % (2 * 2 ^ k.val) = 0 →
    BitVec.ofNat 32 e.val ||| BitVec.ofNat 32 (2 ^ k.val) = BitVec.ofNat 32 (e.val + 2 ^ k.val) := by
  decide +kernel

/-- A step at the bit `2 ^ k` halves the gap. -/
theorem kstep_reached (t : EReal) (k : Fin 8) (n : ℕ) (h : Reached t (2 * 2 ^ k.val) n) :
    ∃ n', kstep t (BitVec.ofNat 32 (2 ^ k.val)) (BitVec.ofNat 32 n) = BitVec.ofNat 32 n' ∧ Reached t (2 ^ k.val) n' := by
  obtain ⟨h1, h2, h3, h4⟩ := h
  have hp : 0 < 2 ^ k.val := Nat.pos_of_ne_zero (by positivity)
  have hor := or_add k ⟨n, by omega⟩ h2
  have hm : n % 2 ^ k.val = 0 := Nat.mod_eq_zero_of_dvd (dvd_trans (Dvd.intro_left 2 rfl) (Nat.dvd_of_mod_eq_zero h2))
  have hs : kstep t (BitVec.ofNat 32 (2 ^ k.val)) (BitVec.ofNat 32 n)
      = if thr (n + 2 ^ k.val) ≤ t then BitVec.ofNat 32 (n + 2 ^ k.val) else BitVec.ofNat 32 n := by
    unfold kstep IntOp.ori
    rw [show IntOp.shli .vector (BitVec.ofNat 32 n ||| BitVec.ofNat 32 (2 ^ k.val)) 23#32 = (BitVec.ofNat 32 n ||| BitVec.ofNat 32 (2 ^ k.val)) <<< 23 from rfl]
    rw [hor]
    unfold Ideal.cmp Scalar.select thr
    by_cases hc : Ideal.ofBits .f32 (BitVec.ofNat 32 (n + 2 ^ k.val) <<< 23) ≤ t
    · rw [if_pos hc]; simp [hc]
    · rw [if_neg hc]; simp [hc]
  rw [hs]
  by_cases hc : thr (n + 2 ^ k.val) ≤ t
  · refine ⟨n + 2 ^ k.val, if_pos hc, by omega, ?_, .inr hc, ?_⟩
    · rw [Nat.add_mod_right]; exact hm
    · rcases h4 with h4 | h4
      · exact .inl (by omega)
      · exact .inr (by rw [show n + 2 ^ k.val + 2 ^ k.val = n + 2 * 2 ^ k.val by ring]; exact h4)
  · exact ⟨n, if_neg hc, by omega, hm, h3, .inr (not_le.mp hc)⟩

/-- So the eight steps find the field. -/
theorem kE_reached (t : EReal) : ∃ n, kE t = BitVec.ofNat 32 n ∧ Reached t 1 n := by
  have h : Reached t (2 * 2 ^ (7 : Fin 8).val) 0 := ⟨by norm_num, by norm_num, .inl rfl, .inl (by norm_num)⟩
  obtain ⟨a7, e7, h7⟩ := kstep_reached t 7 0 h
  obtain ⟨a6, e6, h6⟩ := kstep_reached t 6 a7 h7
  obtain ⟨a5, e5, h5⟩ := kstep_reached t 5 a6 h6
  obtain ⟨a4, e4, h4⟩ := kstep_reached t 4 a5 h5
  obtain ⟨a3, e3, h3⟩ := kstep_reached t 3 a4 h4
  obtain ⟨a2, e2, h2⟩ := kstep_reached t 2 a3 h3
  obtain ⟨a1, e1, h1⟩ := kstep_reached t 1 a2 h2
  obtain ⟨a0, e0, h0⟩ := kstep_reached t 0 a1 h1
  refine ⟨a0, ?_, h0⟩
  rw [← e0, ← e1, ← e2, ← e3, ← e4, ← e5, ← e6, ← e7]
  rfl

/-! ## The two scales as the bit-by-bit exponent gives them -/

/-- The exponents 0 and 255 count as no exponent. -/
def kPlain (e : BitVec 32) : BitVec 1 := IntOp.ori (IntOp.cmpi .eq e 0#32) (IntOp.cmpi .eq e 255#32)

/-- The scale's bit pattern's field, -/
def kS (e : BitVec 32) : BitVec 32 := Scalar.select (kPlain e) 127#32 (IntOp.addi e 1#32)

/-- and the reciprocal's. -/
def kI (e : BitVec 32) : BitVec 32 := Scalar.select (kPlain e) 127#32 (IntOp.maxsi (IntOp.subi 253#32 e) 0#32)

def kScale (t : EReal) : EReal := Ideal.ofBits .f32 (IntOp.shli .vector (kS (kE t)) 23#32)
def kInv (t : EReal) : EReal := Ideal.ofBits .f32 (IntOp.shli .vector (kI (kE t)) 23#32)

/-- The scale's field as a number. -/
def sN (n : ℕ) : ℕ := if n = 0 ∨ n = 255 then 127 else n + 1

/-- The reciprocal's field as a number. -/
def iN (n : ℕ) : ℕ := if n = 0 ∨ n = 255 then 127 else 253 - n

theorem kS_eq : ∀ n : Fin 256, kS (BitVec.ofNat 32 n.val) = BitVec.ofNat 32 (sN n.val) := by decide +kernel
theorem kI_eq : ∀ n : Fin 256, kI (BitVec.ofNat 32 n.val) = BitVec.ofNat 32 (iN n.val) := by decide +kernel

/-- Infinity's pattern. -/
theorem inf_eq : Ideal.ofBits .f32 0x7F800000#32 = ⊤ := by
  rw [ofBits_of_fields 0x7F800000#32 255 (by decide +kernel) (by decide +kernel) (by decide +kernel), if_pos rfl]

/-- Zero's pattern. -/
theorem zero_eq : Ideal.ofBits .f32 0x00000000#32 = 0 := by
  rw [ofBits_of_fields 0x00000000#32 0 (by decide +kernel) (by decide +kernel) (by decide +kernel), if_neg (by omega), if_pos rfl]

/-! ## The exponent by counting -/

/-- Two to the power of a word read as an integer. -/
def rPow (e : BitVec 32) : EReal := Ideal.pow (Ideal.ofBits .f32 0x40000000#32) ((e.toInt : ℝ) : EReal)

theorem two_eq : Ideal.ofBits .f32 0x40000000#32 = ((2 : ℝ) : EReal) := by
  rw [ofBits_of_fields 0x40000000#32 128 (by decide +kernel) (by decide +kernel) (by decide +kernel), if_neg (by omega), if_neg (by omega)]
  congr 1
  norm_num

theorem rPow_eq (e : BitVec 32) : rPow e = (((2 : ℝ) ^ e.toInt : ℝ) : EReal) := by
  unfold rPow
  rw [two_eq]
  show ((Real.rpow 2 (e.toInt : ℝ) : ℝ) : EReal) = _
  rw [show Real.rpow 2 (e.toInt : ℝ) = (2 : ℝ) ^ (e.toInt : ℝ) from rfl, Real.rpow_intCast]

/-- The `k`-th counted power is the float of field `k + 1`. -/
theorem count_toInt : ∀ k : Fin 254, (IntOp.addi (4294967170#32) (BitVec.ofNat 32 k.val)).toInt = (k.val : ℤ) - 126 := by decide +kernel

theorem count_pow (k : Fin 254) : rPow (IntOp.addi (4294967170#32) (BitVec.ofNat 32 k.val)) = thr (k.val + 1) := by
  rw [rPow_eq, count_toInt, thr_pow _ (by omega) (by omega)]
  congr 2
  push_cast
  ring

/-- One counted power's word: 1 if the number reaches it. -/
def rOne (t : EReal) (k : Fin 254) : BitVec 32 :=
  (Ideal.cmp .oge t (rPow (IntOp.addi (4294967170#32) (BitVec.ofNat 32 k.val)))).setWidth 32

theorem rOne_eq (t : EReal) (n : ℕ) (h : Reached t 1 n) (k : Fin 254) : rOne t k = BitVec.ofNat 32 (if k.val < n then 1 else 0) := by
  obtain ⟨h1, _, h3, h4⟩ := h
  unfold rOne
  rw [count_pow]
  unfold Ideal.cmp
  by_cases hk : k.val < n
  · have hle : thr (k.val + 1) ≤ t := by
      rcases h3 with h3 | h3
      · omega
      · exact (thr_le (by omega) (by omega) (by omega)).trans h3
    simp [hk, hle]
  · have hlt : t < thr (k.val + 1) := by
      rcases h4 with h4 | h4
      · have := k.isLt; omega
      · exact lt_of_lt_of_le h4 (thr_le (by omega) (by omega) (by have := k.isLt; omega))
    have : ¬thr (k.val + 1) ≤ t := not_le.mpr hlt
    simp [hk, this]

/-- A fold of word additions over words of naturals is the word of the sum. -/
theorem fold_ofNat {ι : Type*} (s : Finset ι) (f : ι → ℕ) :
    s.fold IntOp.addi (0#32) (fun i => BitVec.ofNat 32 (f i)) = BitVec.ofNat 32 (∑ i ∈ s, f i) := by
  classical
  induction s using Finset.induction_on with
  | empty => rfl
  | insert a s ha ih =>
    rw [Finset.fold_insert ha, ih, Finset.sum_insert ha]
    exact (BitVec.ofNat_add ..).symm

/-- How many of the 254 lie below `n`. -/
theorem count_nat (n : ℕ) : (∑ k : Fin 254, if k.val < n then 1 else 0) = min n 254 := by
  rw [Fin.sum_univ_eq_sum_range (fun k => if k < n then 1 else 0) 254, Finset.sum_boole, Nat.cast_id,
    show (Finset.range 254).filter (fun k => k < n) = Finset.range (min n 254) from by
      ext k; simp only [Finset.mem_filter, Finset.mem_range]; omega, Finset.card_range]

/-- How many powers the number reaches. -/
theorem count_eq (t : EReal) (n : ℕ) (h : Reached t 1 n) :
    (Finset.univ : Finset (Fin 254)).fold IntOp.addi (0#32) (rOne t) = BitVec.ofNat 32 (min n 254) := by
  have e1 := Finset.fold_congr (op := IntOp.addi (w := 32)) (b := 0#32) (s := (Finset.univ : Finset (Fin 254)))
    (fun k _ => rOne_eq t n h k)
  refine e1.trans ((fold_ofNat Finset.univ fun k : Fin 254 => if k.val < n then 1 else 0).trans (congrArg (BitVec.ofNat 32) ?_))
  exact count_nat n

/-- The exponent a number and its count give. -/
def rES (t : EReal) (cnt : BitVec 32) : BitVec 32 :=
  Scalar.select (IntOp.ori (Ideal.cmp .olt t (Ideal.ofBits .f32 0x00800000#32)) (Ideal.cmp .oeq t (Ideal.ofBits .f32 0x7F800000#32)))
    0#32 (IntOp.subi cnt 126#32)

/-- The same off the field. -/
def eN (n : ℕ) : BitVec 32 := if n = 0 ∨ n = 255 then 0#32 else IntOp.subi (BitVec.ofNat 32 (min n 254)) 126#32

theorem rES_eq (t : EReal) (n : ℕ) (h : Reached t 1 n) : rES t (BitVec.ofNat 32 (min n 254)) = eN n := by
  obtain ⟨h1, _, h3, h4⟩ := h
  have e1 : Ideal.ofBits .f32 0x00800000#32 = thr 1 := congrArg (Ideal.ofBits .f32) (by decide +kernel : (0x00800000#32 : BitVec 32) = BitVec.ofNat 32 1 <<< 23)
  have e2 := inf_eq
  unfold rES eN Ideal.cmp
  rw [e1, e2]
  have a1 : t < thr 1 ↔ n = 0 := by
    constructor
    · intro hl
      rcases h3 with h3 | h3
      · exact h3
      · by_contra hn
        exact absurd (lt_of_lt_of_le hl ((thr_le (le_refl 1) (by omega) (by omega)).trans h3)) (lt_irrefl _)
    · rintro rfl
      rcases h4 with h4 | h4
      · omega
      · exact h4
  have a2 : t = ⊤ ↔ n = 255 := by
    constructor
    · rintro rfl
      rcases h4 with h4 | h4
      · omega
      · exact absurd h4 not_top_lt
    · rintro rfl
      rcases h3 with h3 | h3
      · omega
      · rw [thr_top] at h3; exact top_le_iff.mp h3
  simp only [a1, a2]
  by_cases c1 : n = 0
  · subst c1; rfl
  · by_cases c2 : n = 255
    · subst c2; rfl
    · simp [c1, c2, Scalar.select, IntOp.ori]

/-- An exponent's negative. -/
def ng (e : BitVec 32) : BitVec 32 := -e

/-- Two to the power of an exponent in the range of float32. -/
def rLdS (e : BitVec 32) : EReal :=
  Scalar.select (IntOp.cmpi .sgt e 127#32) (Ideal.ofBits .f32 0x7F800000#32)
    (Scalar.select (IntOp.cmpi .slt e 4294967170#32) (Ideal.ofBits .f32 0x00000000#32) (rPow e))

theorem sc_facts : ∀ n : Fin 256,
    (sN n.val = 255 ∧ IntOp.cmpi .sgt (eN n.val) 127#32 = 1#1)
    ∨ (1 ≤ sN n.val ∧ sN n.val ≤ 254 ∧ IntOp.cmpi .sgt (eN n.val) 127#32 = 0#1 ∧ IntOp.cmpi .slt (eN n.val) 4294967170#32 = 0#1
      ∧ (eN n.val).toInt = (sN n.val : ℤ) - 127) := by decide +kernel

theorem in_facts : ∀ n : Fin 256,
    (iN n.val = 0 ∧ IntOp.cmpi .sgt (ng (eN n.val)) 127#32 = 0#1 ∧ IntOp.cmpi .slt (ng (eN n.val)) 4294967170#32 = 1#1)
    ∨ (1 ≤ iN n.val ∧ iN n.val ≤ 254 ∧ IntOp.cmpi .sgt (ng (eN n.val)) 127#32 = 0#1 ∧ IntOp.cmpi .slt (ng (eN n.val)) 4294967170#32 = 0#1
      ∧ (ng (eN n.val)).toInt = (iN n.val : ℤ) - 127) := by decide +kernel

/-- The counted exponent's scale is the float of the field `sN`, -/
theorem rLdS_scale (n : ℕ) (hn : n < 256) : rLdS (eN n) = thr (sN n) := by
  unfold rLdS
  rcases sc_facts ⟨n, hn⟩ with ⟨a, b⟩ | ⟨a, b, c, d, e⟩
  · simp only at a b
    rw [a, b, thr_top, inf_eq]; rfl
  · simp only at a b c d e
    rw [c, d, thr_pow _ a b, ← e, ← rPow_eq]; rfl

/-- and its reciprocal the float of the field `iN`. -/
theorem rLdS_inv (n : ℕ) (hn : n < 256) : rLdS (ng (eN n)) = thr (iN n) := by
  unfold rLdS
  rcases in_facts ⟨n, hn⟩ with ⟨a, b, c⟩ | ⟨a, b, c, d, e⟩
  · simp only at a b c
    rw [a, b, c, thr_zero, zero_eq]; rfl
  · simp only at a b c d e
    rw [c, d, thr_pow _ a b, ← e, ← rPow_eq]; rfl

/-! ## The two ways agree -/

/-- The exponent by counting. -/
def rExp (t : EReal) : BitVec 32 := rES t ((Finset.univ : Finset (Fin 254)).fold IntOp.addi (0#32) (rOne t))

/-- The scale found bit by bit is the scale found by counting. -/
theorem scale_eq (t : EReal) : kScale t = rLdS (rExp t) := by
  obtain ⟨n, e, h⟩ := kE_reached t
  have hn : n < 256 := by have := h.1; omega
  unfold kScale rExp
  rw [count_eq t n h, rES_eq t n h, rLdS_scale n hn, e, kS_eq ⟨n, hn⟩]
  rfl

/-- So is its reciprocal. -/
theorem inv_eq (t : EReal) : kInv t = rLdS (ng (rExp t)) := by
  obtain ⟨n, e, h⟩ := kE_reached t
  have hn : n < 256 := by have := h.1; omega
  unfold kInv rExp
  rw [count_eq t n h, rES_eq t n h, rLdS_inv n hn, e, kI_eq ⟨n, hn⟩]
  rfl

end Cert.Ladder

end
-- ==== Proof.Spec.lean ====
/- The problem's mathematics, one number at a time: what both programs compute at each row and column. -/
module
public import proofs.«01_k».proof.Proof.Ladder

@[expose] public section

set_option maxRecDepth 16384

noncomputable section

namespace Cert.Spec

open Idealize.ShloMosaic

/-! ## The gated product -/

/-- The activations by batch, row and feature. -/
abbrev Act := Fin 4 → Fin 4096 → Fin 2048 → EReal

/-- The weights by feature and column. -/
abbrev Wgt := Fin 2048 → Fin 8192 → EReal

/-- The matrix product at one row and column. -/
def gu (X : Act) (W : Wgt) (b : Fin 4) (s : Fin 4096) (n : Fin 8192) : EReal := ∑ d, X b s d * W d n

/-- Gate times its logistic times the other factor. -/
def gated (g u : EReal) : EReal := g * Ideal.div 1 (1 + Ideal.exp (-g)) * u

/-- The gated product at one row and column. -/
def hh (X : Act) (W : Wgt) (b : Fin 4) (s : Fin 4096) (k : Fin 4096) : EReal :=
  gated (gu X W b s ⟨k.val, by omega⟩) (gu X W b s ⟨4096 + k.val, by omega⟩)

/-- The greatest of `f`'s values, from minus infinity. -/
def top {n : ℕ} (f : Fin n → EReal) : EReal := Finset.univ.fold max (Ideal.ofBits .f32 0xFF800000#32) f

/-- The magnitude the programs take. -/
def mag (h : EReal) : EReal := FloatOps.absf (F := Ideal) (φ := .f32) h

/-- The greatest magnitude of a row. -/
def mx (X : Act) (W : Wgt) (b : Fin 4) (s : Fin 4096) : EReal := top fun k => mag (hh X W b s k)

/-- The greatest magnitude over 448. -/
def quo (a : EReal) : EReal := a * Ideal.ofBits .f32 0x3B124925#32

/-- A product times a reciprocal scale, clipped to ±448. -/
def clip (h i : EReal) : EReal := min (Ideal.ofBits .f32 0x43E00000#32) (max (Ideal.ofBits .f32 0xC3E00000#32) (h * i))

/-! ## The greatest of 4096 values by eight blocks of 512 -/

/-- The greatest over block `i`. -/
def part (f : Fin 4096 → EReal) (i : ℕ) : EReal := top fun j : Fin 512 => f ⟨(512 * i + j.val) % 4096, Nat.mod_lt _ (by norm_num)⟩

/-- The greatest over the blocks up to `i`, taken one block after another. -/
def run (f : Fin 4096 → EReal) : ℕ → EReal
  | 0 => part f 0
  | i + 1 => max (run f i) (part f (i + 1))

/-- A value is above the greatest exactly if it is above the start and above every value. -/
theorem top_le {n : ℕ} (f : Fin n → EReal) (a : EReal) : top f ≤ a ↔ Ideal.ofBits .f32 0xFF800000#32 ≤ a ∧ ∀ k, f k ≤ a := by
  unfold top
  rw [Finset.fold_max_le]
  simp

/-- The same of the greatest by blocks. -/
theorem run_le (f : Fin 4096 → EReal) (a : EReal) (i : ℕ) :
    run f i ≤ a ↔ Ideal.ofBits .f32 0xFF800000#32 ≤ a
      ∧ ∀ i' ≤ i, ∀ j : Fin 512, f ⟨(512 * i' + j.val) % 4096, Nat.mod_lt _ (by norm_num)⟩ ≤ a := by
  induction i with
  | zero =>
    rw [run, part, top_le]
    constructor
    · rintro ⟨h, h'⟩
      refine ⟨h, fun i' hi => ?_⟩
      obtain rfl : i' = 0 := by omega
      exact h'
    · rintro ⟨h, h'⟩
      exact ⟨h, h' 0 le_rfl⟩
  | succ i ih =>
    rw [run, max_le_iff, ih, part, top_le]
    constructor
    · rintro ⟨⟨h, h1⟩, _, h2⟩
      refine ⟨h, fun i' hi => ?_⟩
      rcases Nat.lt_or_ge i i' with h' | h'
      · obtain rfl : i' = i + 1 := by omega
        exact h2
      · exact h1 i' h'
    · rintro ⟨h, h'⟩
      exact ⟨⟨h, fun i' hi => h' i' (by omega)⟩, h, h' (i + 1) le_rfl⟩

/-- After the eighth block it is the greatest of all. -/
theorem run_seven (f : Fin 4096 → EReal) : run f 7 = top f := by
  refine eq_of_forall_ge_iff fun a => ?_
  rw [run_le, top_le]
  refine and_congr_right fun _ => ⟨fun h k => ?_, fun h i _ j => h _⟩
  have e := h (k.val / 512) (by omega) ⟨k.val % 512, Nat.mod_lt _ (by norm_num)⟩
  have e' : (⟨(512 * (k.val / 512) + k.val % 512) % 4096, Nat.mod_lt _ (by norm_num)⟩ : Fin 4096) = k := by
    apply Fin.ext
    show (512 * (k.val / 512) + k.val % 512) % 4096 = k.val
    omega
  rw [← e']
  exact e

end Cert.Spec

end
-- ==== Proof.KScale.lean ====
/- The kernel's scale and reciprocal scale, one number at a time: both are the ladder's. -/
module
public import proofs.«01_k».proof.Proof.RunC
public import proofs.«01_k».proof.Proof.Spec

@[expose] public section

set_option maxRecDepth 16384

noncomputable section

namespace Cert.KernelIdeal.Body

open Cert.KernelIdeal Cert.KernelIdeal.Gen Idealize.ShloMosaic Idealize.ShloMosaic.TcCoe

set_option maxHeartbeats 400000

/-- One step of the ladder on a whole vector. -/
def vstep (t : FVec Ideal S512x1 .f32) (b : BitVec 32) (e : IVec S512x1 32) : IVec S512x1 32 :=
  select (cmpf .oge t (bitcastToFloat .f32 (shli (ori e (broadcast S512x1 b)) (broadcast S512x1 23#32)))) (ori e (broadcast S512x1 b)) e

/-- At a point it is the ladder's step. -/
theorem vstep_at (t : FVec Ideal S512x1 .f32) (b : BitVec 32) (e : IVec S512x1 32) (i : S512x1.Idx) :
    vstep t b e i = Ladder.kstep (t i) b (e i) := rfl

/-- The quotients. -/
theorem pay8_at (v : FVec Ideal S512x1 .f32) (i : S512x1.Idx) : k0_pay8 (F := Ideal) v i = Spec.quo (v i) := rfl

/-- The first five steps. -/
theorem pay9_eq (v : FVec Ideal S512x1 .f32) :
    k0_pay9 (F := Ideal) v = vstep (k0_pay8 (F := Ideal) v) 8#32 (vstep (k0_pay8 (F := Ideal) v) 16#32 (vstep (k0_pay8 (F := Ideal) v) 32#32 (vstep (k0_pay8 (F := Ideal) v) 64#32
      (vstep (k0_pay8 (F := Ideal) v) 128#32 (broadcast S512x1 0#32))))) := by
  unfold k0_pay9 vstep
  generalize k0_pay8 (F := Ideal) v = t
  rfl

/-- The last three, from what the first five left. -/
theorem pay12_eq (t : FVec Ideal S512x1 .f32) (e : IVec S512x1 32) :
    k0_pay12 (F := Ideal) t e (ori e (broadcast S512x1 4#32)) (bitcastToFloat .f32 (shli (ori e (broadcast S512x1 4#32)) (broadcast S512x1 23#32)))
      = vstep t 1#32 (vstep t 2#32 (vstep t 4#32 e)) := by
  unfold k0_pay12 vstep
  rfl

/-- All eight. -/
theorem ladder_eq (v : FVec Ideal S512x1 .f32) :
    k0_pay12 (F := Ideal) (k0_pay8 (F := Ideal) v) (k0_pay9 (F := Ideal) v) (k0_pay10 (F := Ideal) v) (k0_pay11 (F := Ideal) v)
      = vstep (k0_pay8 (F := Ideal) v) 1#32 (vstep (k0_pay8 (F := Ideal) v) 2#32 (vstep (k0_pay8 (F := Ideal) v) 4#32 (k0_pay9 (F := Ideal) v))) := by
  rw [← pay12_eq]
  unfold k0_pay11 k0_pay10
  generalize k0_pay9 (F := Ideal) v = e
  generalize k0_pay8 (F := Ideal) v = t
  rfl

/-- The field they find at a point. -/
theorem ladder_at (v : FVec Ideal S512x1 .f32) (i : S512x1.Idx) :
    k0_pay12 (F := Ideal) (k0_pay8 (F := Ideal) v) (k0_pay9 (F := Ideal) v) (k0_pay10 (F := Ideal) v) (k0_pay11 (F := Ideal) v) i = Ladder.kE (Spec.quo (v i)) := by
  rw [ladder_eq, pay9_eq]
  simp only [vstep_at, pay8_at]
  unfold Ladder.kE
  rfl

/-- The scale off the field. -/
theorem pay14_at (a : FVec Ideal S512x1 .f32) (b d : IVec S512x1 32) (e : FVec Ideal S512x1 .f32) (i : S512x1.Idx) :
    k0_pay14 (F := Ideal) a b d e i = Ideal.ofBits .f32 (IntOp.shli .vector (Ladder.kS (k0_pay12 (F := Ideal) a b d e i)) 23#32) := by
  unfold k0_pay14 k0_pay13
  generalize k0_pay12 (F := Ideal) a b d e = u
  rfl

/-- The reciprocal off the field. -/
theorem pay15_at (a : FVec Ideal S512x1 .f32) (b d : IVec S512x1 32) (e : FVec Ideal S512x1 .f32) (i : S512x1.Idx) :
    k0_pay15 (F := Ideal) a b d e i = Ideal.ofBits .f32 (IntOp.shli .vector (Ladder.kI (k0_pay12 (F := Ideal) a b d e i)) 23#32) := by
  unfold k0_pay15 k0_pay13
  generalize k0_pay12 (F := Ideal) a b d e = u
  rfl

/-- The scale of a row maximum. -/
theorem scale_at (v : FVec Ideal S512x1 .f32) (i : S512x1.Idx) : scale (F := Ideal) v i = Ladder.kScale (Spec.quo (v i)) := by
  unfold scale
  rw [pay14_at, ladder_at]
  unfold Ladder.kScale
  rfl

/-- The reciprocal scale of a row maximum. -/
theorem inv_at (v : FVec Ideal S512x1 .f32) (i : S512x1.Idx) : inv (F := Ideal) v i = Ladder.kInv (Spec.quo (v i)) := by
  unfold inv
  rw [pay15_at, ladder_at]
  unfold Ladder.kInv
  rfl

end Cert.KernelIdeal.Body

end
-- ==== Proof.KVal.lean ====
/- The idealized kernel's results at each row and column: its blocks, its running row maxima, its gated products. -/
module
public import proofs.«01_k».proof.Proof.Data
public import proofs.«01_k».proof.Proof.KScale
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)

set_option maxHeartbeats 1000000

variable (m : (ℓ : Loc nD τ sig) → Buf (Elt Ideal) ℓ)

/-! ## The blocks a point reads -/

/-- The blocks' places. -/
theorem idx : ∀ t : Fin cfg0.N, win0_0.index t = ![t.val / 8, 0] ∧ win0_1.index t = ![0, t.val % 8] ∧ win0_2.index t = ![0, t.val % 8 + 8]
    ∧ win0_3.index t = ![t.val / 8, 0] ∧ win0_4.index t = ![t.val / 8, 0] ∧ win0_5.index t = ![t.val / 8, 0] :=
  (by decide +kernel : ∀ t : Fin grid0.N, _)

/-- The activations as the arguments hold them. -/
def act (c : Dev nD) : Spec.Act := fun b s d => (show FVec Ideal S4x4096x2048 .f32 from m ((c : Thread nD τ).loc main_arg0)) (ix3 b s d)

/-- The weights likewise. -/
def wgt (c : Dev nD) : Spec.Wgt := fun d n => (show FVec Ideal S2048x8192 .f32 from m ((c : Thread nD τ).loc main_arg1)) (ix2 d n)

/-- The grid has 256 points. -/
theorem tlt (t : Fin cfg0.N) : t.val < 256 := lt_of_lt_of_eq t.isLt N_0

/-- The batch of row `a` of the row block of point `n`. -/
def rowB (n : ℕ) (h : n < 256) (a : Fin 512) : Fin 4 := ⟨(n / 8 * 512 + a.val) / 4096, by omega⟩

/-- That row's place inside its batch. -/
def rowS (n : ℕ) (a : Fin 512) : Fin 4096 := ⟨(n / 8 * 512 + a.val) % 4096, by omega⟩

/-- The x block. -/
theorem blk0_at (c : Dev nD) (t : Fin cfg0.N) (a : Fin 512) (d : Fin 2048) :
    (show FVec Ideal S512x2048 .f32 from iblk m c 0 t) (ix2 a d) = act m c (rowB t.val (tlt t) a) (rowS t.val a) d := by
  unfold act rowB rowS
  blk_point [iblk, V, idx t]

/-- The gate's weights. -/
theorem blk1_at (c : Dev nD) (t : Fin cfg0.N) (d : Fin 2048) (j : Fin 512) :
    (show FVec Ideal S2048x512 .bf16 from iblk m c 1 t) (ix2 d j) = wgt m c d ⟨t.val % 8 * 512 + j.val, by omega⟩ := by
  unfold wgt
  blk_point [iblk, V, idx t]

/-- The other factor's weights. -/
theorem blk2_at (c : Dev nD) (t : Fin cfg0.N) (d : Fin 2048) (j : Fin 512) :
    (show FVec Ideal S2048x512 .bf16 from iblk m c 2 t) (ix2 d j) = wgt m c d ⟨4096 + (t.val % 8 * 512 + j.val), by omega⟩ := by
  unfold wgt
  blk_point [iblk, V, idx t]

/-! ## The payloads at a point -/

/-- The cast x block. -/
theorem pay1_at (x : FVec Ideal S512x2048 .f32) (a : Fin 512) (d : Fin 2048) : k0_pay1 (F := Ideal) x (ix2 a d) = x (ix2 a d) := by
  pointwise [k0_pay1]

/-- The gated product of a block. -/
theorem pay2_at (xb : FVec Ideal S512x2048 .bf16) (wg wu : FVec Ideal S2048x512 .bf16) (a b : Fin 512) :
    k0_pay2 (F := Ideal) xb wg wu (ix2 a b) = Spec.gated (∑ d : Fin 2048, xb (ix2 a d) * wg (ix2 d b)) (∑ d : Fin 2048, xb (ix2 a d) * wu (ix2 d b)) := by
  pointwise [k0_pay2]
  simp only [Spec.gated, Ideal.logistic]

/-- The same stored. -/
theorem pay3_at (xb : FVec Ideal S512x2048 .bf16) (wg wu : FVec Ideal S2048x512 .bf16) (a b : Fin 512) :
    k0_pay3 (F := Ideal) xb wg wu (ix2 a b) = k0_pay2 (F := Ideal) xb wg wu (ix2 a b) := by
  pointwise [k0_pay3]

/-- The block's row maxima. -/
theorem pay4_at (xb : FVec Ideal S512x2048 .bf16) (wg wu : FVec Ideal S2048x512 .bf16) (a : Fin 512) (b : Fin 1) :
    k0_pay4 (F := Ideal) xb wg wu (ix2 a b) = Spec.top fun j : Fin 512 => Spec.mag (k0_pay2 (F := Ideal) xb wg wu (ix2 a j)) := by
  pointwise [k0_pay4]
  simp only [Spec.top, Spec.mag]

/-- The first block's row maxima stored. -/
theorem pay5_at (xb : FVec Ideal S512x2048 .bf16) (wg wu : FVec Ideal S2048x512 .bf16) (a : Fin 512) (b : Fin 1) :
    k0_pay5 (F := Ideal) xb wg wu (ix2 a b) = k0_pay4 (F := Ideal) xb wg wu (ix2 a b) := by
  pointwise [k0_pay5]

/-- A later block's. -/
theorem pay6_at (xb : FVec Ideal S512x2048 .bf16) (wg wu : FVec Ideal S2048x512 .bf16) (v : FVec Ideal S512x1 .f32) (a : Fin 512) (b : Fin 1) :
    k0_pay6 (F := Ideal) xb wg wu v (ix2 a b) = max (v (ix2 a b)) (k0_pay4 (F := Ideal) xb wg wu (ix2 a b)) := by
  pointwise [k0_pay6]

/-- The codes. -/
theorem codes_at (v : FVec Ideal S512x1 .f32) (h : FVec Ideal S512x4096 .f32) (a : Fin 512) (k : Fin 4096) :
    codes (F := Ideal) v h (ix2 a k) = Spec.clip (h (ix2 a k)) (Ladder.kInv (Spec.quo (v (ix2 a 0)))) := by
  rw [← inv_at]
  pointwise [codes, k0_pay7]
  simp only [Spec.clip]

/-! ## The state after a point -/

/-- The gated product a point computes. -/
theorem prod_at (c : Dev nD) (t : Fin cfg0.N) (xb : FVec Ideal S512x2048 .bf16)
    (hx : ∀ a d, xb (ix2 a d) = act m c (rowB t.val (tlt t) a) (rowS t.val a) d) (a j : Fin 512) :
    k0_pay2 (F := Ideal) xb (iblk m c 1 t) (iblk m c 2 t) (ix2 a j)
      = Spec.hh (act m c) (wgt m c) (rowB t.val (tlt t) a) (rowS t.val a) ⟨(512 * (t.val % 8) + j.val) % 4096, Nat.mod_lt _ (by norm_num)⟩ := by
  refine (pay2_at xb (iblk m c 1 t) (iblk m c 2 t) a j).trans ?_
  unfold Spec.hh Spec.gu
  refine congrArg₂ Spec.gated (Finset.sum_congr rfl fun d _ => ?_) (Finset.sum_congr rfl fun d _ => ?_)
  · refine congrArg₂ (· * ·) (hx a d) ((blk1_at m c t d j).trans (congrArg (wgt m c d) (Fin.ext ?_)))
    show t.val % 8 * 512 + j.val = (512 * (t.val % 8) + j.val) % 4096
    omega
  · refine congrArg₂ (· * ·) (hx a d) ((blk2_at m c t d j).trans (congrArg (wgt m c d) (Fin.ext ?_)))
    show 4096 + (t.val % 8 * 512 + j.val) = 4096 + (512 * (t.val % 8) + j.val) % 4096
    omega

/-- The row maxima of the block a point computes. -/
theorem max_at (c : Dev nD) (t : Fin cfg0.N) (xb : FVec Ideal S512x2048 .bf16)
    (hx : ∀ a d, xb (ix2 a d) = act m c (rowB t.val (tlt t) a) (rowS t.val a) d) (a : Fin 512) (b : Fin 1) :
    k0_pay4 (F := Ideal) xb (iblk m c 1 t) (iblk m c 2 t) (ix2 a b)
      = Spec.part (fun k => Spec.mag (Spec.hh (act m c) (wgt m c) (rowB t.val (tlt t) a) (rowS t.val a) k)) (t.val % 8) := by
  refine (pay4_at xb (iblk m c 1 t) (iblk m c 2 t) a b).trans ?_
  unfold Spec.part
  exact congrArg Spec.top (funext fun j => congrArg Spec.mag (prod_at m c t xb hx a j))

/-- After a point the scratch holds the cast x block and the row maxima over the column blocks so far. -/
theorem st_at (c : Dev nD) : ∀ (n : ℕ) (h : n < cfg0.N) (h' : n < 256),
    (∀ a d, (st m c n h).1 (ix2 a d) = act m c (rowB n h' a) (rowS n a) d)
    ∧ ∀ a b, (st m c n h).2 (ix2 a b)
      = Spec.run (fun k => Spec.mag (Spec.hh (act m c) (wgt m c) (rowB n h' a) (rowS n a) k)) (n % 8) := by
  have first (t : Fin cfg0.N) (h0 : t.val % 8 = 0) :
      (∀ a d, (st m c t.val t.isLt).1 (ix2 a d) = act m c (rowB t.val (tlt t) a) (rowS t.val a) d)
      ∧ ∀ a b, (st m c t.val t.isLt).2 (ix2 a b)
        = Spec.run (fun k => Spec.mag (Spec.hh (act m c) (wgt m c) (rowB t.val (tlt t) a) (rowS t.val a) k)) (t.val % 8) := by
    rw [st_first m c t h0]
    dsimp only
    have hx : ∀ a d, k0_pay1 (F := Ideal) (iblk m c 0 t) (ix2 a d) = act m c (rowB t.val (tlt t) a) (rowS t.val a) d :=
      fun a d => (pay1_at (iblk m c 0 t) a d).trans (blk0_at m c t a d)
    refine ⟨hx, fun a b => ?_⟩
    refine (pay5_at _ (iblk m c 1 t) (iblk m c 2 t) a b).trans ((max_at m c t _ hx a b).trans ?_)
    rw [h0, Spec.run]
  intro n
  induction n with
  | zero => intro h h'; exact first ⟨0, h⟩ rfl
  | succ n ih =>
    intro h h'
    by_cases h0 : (n + 1) % 8 = 0
    · exact first ⟨n + 1, h⟩ h0
    · obtain ⟨i1, i2⟩ := ih (Nat.lt_of_succ_lt h) (by omega)
      have eB (a : Fin 512) : rowB (n + 1) h' a = rowB n (by omega) a := Fin.ext (by show ((n + 1) / 8 * 512 + a.val) / 4096 = (n / 8 * 512 + a.val) / 4096; rw [show (n + 1) / 8 = n / 8 by omega])
      have eS (a : Fin 512) : rowS (n + 1) a = rowS n a := Fin.ext (by show ((n + 1) / 8 * 512 + a.val) % 4096 = (n / 8 * 512 + a.val) % 4096; rw [show (n + 1) / 8 = n / 8 by omega])
      have e := st_next m c ⟨n + 1, h⟩ h0
      have hx : ∀ a d, (st m c n (Nat.lt_of_succ_lt h)).1 (ix2 a d) = act m c (rowB (n + 1) h' a) (rowS (n + 1) a) d := by
        intro a d
        rw [eB, eS]
        exact i1 a d
      have e' : st m c (n + 1) h = ((st m c n (Nat.lt_of_succ_lt h)).1,
        k0_pay6 (st m c n (Nat.lt_of_succ_lt h)).1 (iblk m c 1 ⟨n + 1, h⟩) (iblk m c 2 ⟨n + 1, h⟩) (st m c n (Nat.lt_of_succ_lt h)).2) := e
      rw [e']
      dsimp only
      refine ⟨hx, fun a b => ?_⟩
      refine (pay6_at _ (iblk m c 1 ⟨n + 1, h⟩) (iblk m c 2 ⟨n + 1, h⟩) _ a b).trans ?_
      have e2 := max_at m c ⟨n + 1, h⟩ _ hx a b
      have e1 := i2 a b
      rw [← eB a, ← eS a] at e1
      rw [show (n + 1) % 8 = n % 8 + 1 by omega, Spec.run]
      refine congrArg₂ max e1 (e2.trans ?_)
      show Spec.part _ ((n + 1) % 8) = _
      rw [show (n + 1) % 8 = n % 8 + 1 by omega]

/-- At a row block's last point the row maxima are over all columns. -/
theorem st_last (c : Dev nD) (t : Fin cfg0.N) (h7 : t.val % 8 = 7) (a : Fin 512) (b : Fin 1) :
    (st m c t.val t.isLt).2 (ix2 a b) = Spec.mx (act m c) (wgt m c) (rowB t.val (tlt t) a) (rowS t.val a) := by
  rw [(st_at m c t.val t.isLt (tlt t)).2 a b, h7, Spec.run_seven, Spec.mx]

/-- And the gated product the scratch holds is the whole row block's. -/
theorem hfull_at (c : Dev nD) (t : Fin cfg0.N) (a : Fin 512) (k : Fin 4096) :
    hfull m c t (ix2 a k) = Spec.hh (act m c) (wgt m c) (rowB t.val (tlt t) a) (rowS t.val a) k := by
  have hn : 8 * (t.val / 8) + k.val / 512 < 256 := by have := tlt t; omega
  have hN : 8 * (t.val / 8) + k.val / 512 < cfg0.N := lt_of_lt_of_eq hn N_0.symm
  have e : hfull m c t (ix2 a k) = hpart m c (8 * (t.val / 8) + k.val / 512) hN (ix2 ⟨a.val, a.isLt⟩ ⟨k.val % 512, Nat.mod_lt _ (by norm_num)⟩) := rfl
  rw [e]
  unfold hpart
  refine (pay3_at _ (iblk m c 1 ⟨_, hN⟩) (iblk m c 2 ⟨_, hN⟩) _ _).trans ?_
  refine (prod_at m c ⟨_, hN⟩ _ (st_at m c _ hN hn).1 _ _).trans ?_
  have eB : rowB (8 * (t.val / 8) + k.val / 512) hn a = rowB t.val (tlt t) a := Fin.ext (by
    show ((8 * (t.val / 8) + k.val / 512) / 8 * 512 + a.val) / 4096 = (t.val / 8 * 512 + a.val) / 4096
    rw [show (8 * (t.val / 8) + k.val / 512) / 8 = t.val / 8 by omega])
  have eS : rowS (8 * (t.val / 8) + k.val / 512) a = rowS t.val a := Fin.ext (by
    show ((8 * (t.val / 8) + k.val / 512) / 8 * 512 + a.val) % 4096 = (t.val / 8 * 512 + a.val) % 4096
    rw [show (8 * (t.val / 8) + k.val / 512) / 8 = t.val / 8 by omega])
  have eK : (⟨(512 * ((8 * (t.val / 8) + k.val / 512) % 8) + k.val % 512) % 4096, Nat.mod_lt _ (by norm_num)⟩ : Fin 4096) = k := Fin.ext (by
    show (512 * ((8 * (t.val / 8) + k.val / 512) % 8) + k.val % 512) % 4096 = k.val
    omega)
  show Spec.hh (act m c) (wgt m c) (rowB (8 * (t.val / 8) + k.val / 512) hn a) (rowS (8 * (t.val / 8) + k.val / 512) a)
    ⟨(512 * ((8 * (t.val / 8) + k.val / 512) % 8) + k.val % 512) % 4096, _⟩ = _
  rw [eB, eS, eK]

end Cert.KernelIdeal.Body

end
-- ==== Proof.KArr.lean ====
/- The idealized kernel's three result arrays after the run, at each row and column. -/
module
public import proofs.«01_k».proof.Proof.KVal

@[expose] public section

set_option maxRecDepth 16384

noncomputable section

namespace Cert.KernelIdeal.Body

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The row maximum of one row number. -/
def rowMax (c : Dev nD) (r : Fin 16384) : EReal := Spec.mx (act m c) (wgt m c) ⟨r.val / 4096, by omega⟩ ⟨r.val % 4096, by omega⟩

/-- The gated product at one row number and column. -/
def rowH (c : Dev nD) (r : Fin 16384) (k : Fin 4096) : EReal := Spec.hh (act m c) (wgt m c) ⟨r.val / 4096, by omega⟩ ⟨r.val % 4096, by omega⟩ k

/-- The first result: the row maxima. -/
def arr3 (c : Dev nD) : FVec Ideal S16384x1 .f32 := fun y => rowMax m c (y 0)

/-- The second: the clipped products. -/
def arr4 (c : Dev nD) : FVec Ideal S16384x4096 .fp8e4m3 := fun y => Spec.clip (rowH m c (y 0) (y 1)) (Ladder.kInv (Spec.quo (rowMax m c (y 0))))

/-- The third: the scales. -/
def arr5 (c : Dev nD) : FVec Ideal S16384x1 .f32 := fun y => Ladder.kScale (Spec.quo (rowMax m c (y 0)))

/-- A row block's row number. -/
theorem rowMax_blk (c : Dev nD) (t : Fin cfg0.N) (a : Fin 512) (r : Fin 16384) (h : r.val = t.val / 8 * 512 + a.val) :
    Spec.mx (act m c) (wgt m c) (rowB t.val (tlt t) a) (rowS t.val a) = rowMax m c r := by
  unfold rowMax
  refine congrArg₂ _ (Fin.ext ?_) (Fin.ext ?_)
  · show (t.val / 8 * 512 + a.val) / 4096 = r.val / 4096
    rw [h]
  · show (t.val / 8 * 512 + a.val) % 4096 = r.val % 4096
    rw [h]

/-- The same of the gated product. -/
theorem rowH_blk (c : Dev nD) (t : Fin cfg0.N) (a : Fin 512) (r : Fin 16384) (k k' : Fin 4096) (h : r.val = t.val / 8 * 512 + a.val) (hk : k'.val = k.val) :
    Spec.hh (act m c) (wgt m c) (rowB t.val (tlt t) a) (rowS t.val a) k = rowH m c r k' := by
  obtain rfl : k' = k := Fin.ext hk
  have e1 : rowB t.val (tlt t) a = ⟨r.val / 4096, by omega⟩ := Fin.ext (by show (t.val / 8 * 512 + a.val) / 4096 = r.val / 4096; rw [h])
  have e2 : rowS t.val a = ⟨r.val % 4096, by omega⟩ := Fin.ext (by show (t.val / 8 * 512 + a.val) % 4096 = r.val % 4096; rw [h])
  unfold rowH
  rw [e1, e2]

set_option maxHeartbeats 1000000

/-- Where the first result's block of point `t` puts row `a`, -/
theorem emb3 (t : Fin cfg0.N) (y : S512x1.Idx) : (((win0_3.blk t).view.emb y) 0).val = t.val / 8 * 512 + (y 0).val := by
  blk_simp [idx t]

/-- the second's, -/
theorem emb4 (t : Fin cfg0.N) (y : S512x4096.Idx) : (((win0_4.blk t).view.emb y) 0).val = t.val / 8 * 512 + (y 0).val := by
  blk_simp [idx t]

theorem emb4_col (t : Fin cfg0.N) (y : S512x4096.Idx) : (((win0_4.blk t).view.emb y) 1).val = (y 1).val := by
  blk_simp [idx t]

/-- and the third's. -/
theorem emb5 (t : Fin cfg0.N) (y : S512x1.Idx) : (((win0_5.blk t).view.emb y) 0).val = t.val / 8 * 512 + (y 0).val := by
  blk_simp [idx t]

/-- The row maxima at a last point, at any index of its block. -/
theorem st_row (c : Dev nD) (t : Fin cfg0.N) (h7 : t.val % 8 = 7) (y : S512x1.Idx) (r : Fin 16384) (h : r.val = t.val / 8 * 512 + (y 0).val) :
    (st m c t.val t.isLt).2 y = rowMax m c r := by
  have ey : y = ix2 (y 0) (y 1) := (ix2_eta y).symm
  exact (congrArg _ ey).trans ((st_last m c t h7 (y 0) (y 1)).trans (rowMax_blk m c t (y 0) r h))

/-- The first result's array. -/
theorem final3 (c : Dev nD) : (dats m 0 c).arrAt 3 cfg0.N = arr3 m c := by
  refine (dats m 0 c).arrAt_eq_of_covers 3 _ (by decide +kernel) fun t hf y => ?_
  have h7 := (flush0_3 t).mp hf
  blk_simp
  rw [after0_3]
  exact st_row m c t h7 y _ (emb3 t y)

/-- The second result's array. -/
theorem final4 (c : Dev nD) : (dats m 0 c).arrAt 4 cfg0.N = arr4 m c := by
  refine (dats m 0 c).arrAt_eq_of_covers 4 _ (by decide +kernel) fun t hf y => ?_
  have h7 := (flush0_4 t).mp hf
  blk_simp
  rw [after0_4]
  have ey : y = ix2 (n0 := 512) (n1 := 4096) (y 0) (y 1) := (ix2_eta y).symm
  have e1 := emb4 t y
  have e2 := emb4_col t y
  refine (congrArg (codes (st m c t.val t.isLt).2 (hfull m c t)) ey).trans ((codes_at _ _ (y 0) (y 1)).trans ?_)
  unfold arr4
  exact congrArg₂ Spec.clip ((hfull_at m c t (y 0) (y 1)).trans (rowH_blk m c t (y 0) _ (y 1) _ e1 e2)) (congrArg (fun a => Ladder.kInv (Spec.quo a)) (st_row m c t h7 (ix2 (y 0) 0) _ e1))

/-- The third result's array. -/
theorem final5 (c : Dev nD) : (dats m 0 c).arrAt 5 cfg0.N = arr5 m c := by
  refine (dats m 0 c).arrAt_eq_of_covers 5 _ (by decide +kernel) fun t hf y => ?_
  have h7 := (flush0_5 t).mp hf
  blk_simp
  rw [after0_5]
  refine (scale_at _ y).trans ?_
  unfold arr5
  exact congrArg (fun a => Ladder.kScale (Spec.quo a)) (st_row m c t h7 y _ (emb5 t y))

end Cert.KernelIdeal.Body

end
-- ==== Proof.Ref.lean ====
/- What the idealized reference's host lines compute: its results as terms of the two arguments. -/
module
public import proofs.«01_k».proof.Proof.Gen.ReferenceIdeal.Run
public import Idealize.ShloMosaic.Lib.Claim
public import Idealize.ShloMosaic.Lib.StableHlo.RunRead
public import Idealize.ShloMosaic.Lib.Pipeline.ValueKit

@[expose] public section

set_option maxRecDepth 16384

noncomputable section

namespace Cert.ReferenceIdeal.Arr

open Cert.ReferenceIdeal Cert.ReferenceIdeal.Gen Idealize.ShloMosaic Idealize.ShloMosaic.TcCoe Idealize.SL.Sem

/-! ## The reference's lines -/

/-- The matrix product of the two arguments rounded to bfloat16. -/
def rGU (x : FVec Ideal S4x4096x2048 .f32) (w : FVec Ideal S2048x8192 .f32) : FVec Ideal S4x4096x8192 .f32 :=
  Host.dotGeneral dot_S4x4096x2048_S2048x8192_S4x4096x8192_2_0_01_1_n_n none (truncf .bf16 x bitsLt_bf16_f32) (truncf .bf16 w bitsLt_bf16_f32)

/-- Its first 4096 columns: the gate. -/
def rG (x : FVec Ideal S4x4096x2048 .f32) (w : FVec Ideal S2048x8192 .f32) : FVec Ideal S4x4096x4096 .f32 :=
  extractStridedSlice S4x4096x4096 ![0, 0, 0] (rGU x w) slices_S4x4096x8192_S4x4096x4096_0_0_0

/-- Its last 4096 columns: the factor the gate is applied to. -/
def rU (x : FVec Ideal S4x4096x2048 .f32) (w : FVec Ideal S2048x8192 .f32) : FVec Ideal S4x4096x4096 .f32 :=
  extractStridedSlice S4x4096x4096 ![0, 0, 4096] (rGU x w) slices_S4x4096x8192_S4x4096x4096_0_0_4096

/-- The gated product. -/
def rH (x : FVec Ideal S4x4096x2048 .f32) (w : FVec Ideal S2048x8192 .f32) : FVec Ideal S4x4096x4096 .f32 :=
  mulf (mulf (rG x w)
    (Host.divf (broadcastInDim S4x4096x4096 ![] bcast_S_S4x4096x4096 (constant S_ .f32 0x3F800000#32))
      (addf (broadcastInDim S4x4096x4096 ![] bcast_S_S4x4096x4096 (constant S_ .f32 0x3F800000#32)) (Host.exp (Host.negf (rG x w))))))
    (rU x w)

/-- The greatest magnitude of each row. -/
def rMax (h : FVec Ideal S4x4096x4096 .f32) : FVec Ideal S4x4096x1 .f32 :=
  broadcastInDim S4x4096x1 ![0, 1] bcast_S4x4096_S4x4096x1_0_1
    (Host.reduce FloatOps.maximumf (Host.absf h) (constant S_ .f32 0xFF800000#32) reducesTo_S4x4096x4096_S4x4096_d2 h_S_)

/-- The greatest magnitude over 448. -/
def rT (a : FVec Ideal S4x4096x1 .f32) : FVec Ideal S4x4096x1 .f32 :=
  mulf a (broadcastInDim S4x4096x1 ![] bcast_S_S4x4096x1 (constant S_ .f32 0x3B124925#32))

/-- The 254 powers of two from 2^-126. -/
def rPow : FVec Ideal S254 .f32 :=
  Host.powf (broadcastInDim S254 ![] bcast_S_S254 (constant S_ .f32 0x40000000#32))
    (sitofp .f32 (addi (broadcastInDim S254 ![] bcast_S_S254 (constantI S_ 32 4294967170#32)) (iotaInDim S254 32 0)))

/-- How many of them each quotient reaches. -/
def rCount (t : FVec Ideal S4x4096x1 .f32) : Vec Ideal S4x4096x1 .i32 :=
  broadcastInDim S4x4096x1 ![0, 1] bcast_S4x4096_S4x4096x1_0_1
    (Host.reduce IntOp.addi
      (extui 32 (cmpf .oge (broadcastInDim S4x4096x254 ![0, 1, 2] bcast_S4x4096x1_S4x4096x254_0_1_2 t)
        (broadcastInDim S4x4096x254 ![0, 1, 2] bcast_S1x1x254_S4x4096x254_0_1_2 (broadcastInDim S1x1x254 ![2] bcast_S254_S1x1x254_2 rPow))) natLt_1_32)
      (constantI S_ 32 0#32) reducesTo_S4x4096x254_S4x4096_d2 h_S_)

/-- The exponent. -/
def rE (t : FVec Ideal S4x4096x1 .f32) : Vec Ideal S4x4096x1 .i32 :=
  select
    (ori (cmpf .olt t (broadcastInDim S4x4096x1 ![] bcast_S_S4x4096x1 (constant S_ .f32 0x00800000#32)))
      (cmpf .oeq t (broadcastInDim S4x4096x1 ![] bcast_S_S4x4096x1 (constant S_ .f32 0x7F800000#32))))
    (broadcastInDim S4x4096x1 ![] bcast_S_S4x4096x1 (constantI S_ 32 0#32))
    (subi (rCount t) (broadcastInDim S4x4096x1 ![] bcast_S_S4x4096x1 (constantI S_ 32 126#32)))

/-- Two to the power of an exponent, in the range of float32. -/
def rLd (e : Vec Ideal S4x4096x1 .i32) : FVec Ideal S4x4096x1 .f32 :=
  select (cmpi .sgt e (broadcastInDim S4x4096x1 ![] bcast_S_S4x4096x1 (constantI S_ 32 127#32)))
    (broadcastInDim S4x4096x1 ![] bcast_S_S4x4096x1 (constant S_ .f32 0x7F800000#32))
    (select (cmpi .slt e (broadcastInDim S4x4096x1 ![] bcast_S_S4x4096x1 (constantI S_ 32 4294967170#32)))
      (broadcastInDim S4x4096x1 ![] bcast_S_S4x4096x1 (constant S_ .f32 0x00000000#32))
      (Host.powf (broadcastInDim S4x4096x1 ![] bcast_S_S4x4096x1 (constant S_ .f32 0x40000000#32)) (sitofp .f32 e)))

/-- The product times the reciprocal scale, clipped to ±448. -/
def rClip (h : FVec Ideal S4x4096x4096 .f32) (i : FVec Ideal S4x4096x1 .f32) : FVec Ideal S4x4096x4096 .f32 :=
  minimumf (broadcastInDim S4x4096x4096 ![] bcast_S_S4x4096x4096 (constant S_ .f32 0x43E00000#32))
    (maximumf (broadcastInDim S4x4096x4096 ![] bcast_S_S4x4096x4096 (constant S_ .f32 0xC3E00000#32))
      (mulf h (broadcastInDim S4x4096x4096 ![0, 1, 2] bcast_S4x4096x1_S4x4096x4096_0_1_2 i)))

/-- The first result. -/
def ref0 (x : FVec Ideal S4x4096x2048 .f32) (w : FVec Ideal S2048x8192 .f32) : FVec Ideal S16384x1 .f32 :=
  shapeCast S16384x1 (rMax (rH x w)) shapeCasts_S4x4096x1_S16384x1

/-- The second result before its conversion to fp8. -/
def ref1 (x : FVec Ideal S4x4096x2048 .f32) (w : FVec Ideal S2048x8192 .f32) : FVec Ideal S16384x4096 .f32 :=
  shapeCast S16384x4096 (rClip (rH x w) (rLd (negi (rE (rT (rMax (rH x w))))))) shapeCasts_S4x4096x4096_S16384x4096

/-- The third result. -/
def ref2 (x : FVec Ideal S4x4096x2048 .f32) (w : FVec Ideal S2048x8192 .f32) : FVec Ideal S16384x1 .f32 :=
  shapeCast S16384x1 (rLd (rE (rT (rMax (rH x w))))) shapeCasts_S4x4096x1_S16384x1

/-! ## The run's terms -/

/-- A conversion to fp8 leaves every number as it is. -/
theorem conv_fp8 {s : Shape} (P : FVec Ideal s .f32) : (Host.convertf .fp8e4m3 P : s.Idx → Elt Ideal .fp8e4m3) = P := rfl

variable (m : (ℓ : Loc nD τ sig) → Buf (Elt Ideal) ℓ)

/-- The second result's term is the conversion of `ref1`. -/
theorem res1 (c : Dev nD) :
    Value.res_out1 m c = Host.convertf .fp8e4m3 (ref1 (m ((c : Thread nD τ).loc main_arg0)) (m ((c : Thread nD τ).loc main_arg1))) := by
  unfold Value.res_out1 Value.res_main_v58
  simp -implicitDefEqProofs only [id_eq]
  simp only [ref1, rClip, rLd, rE, rCount, rT, rMax, rH, rG, rU, rGU]
  rfl

/-- The third result's term is `ref2`. -/
theorem res2 (c : Dev nD) : Value.res_out2 m c = ref2 (m ((c : Thread nD τ).loc main_arg0)) (m ((c : Thread nD τ).loc main_arg1)) := by
  unfold Value.res_out2 Value.res_main_v57
  simp -implicitDefEqProofs only [id_eq]
  simp only [ref2, rLd, rE, rCount, rT, rMax, rH, rG, rU, rGU]
  rfl

end Cert.ReferenceIdeal.Arr

end
-- ==== Proof.RefVal.lean ====
/- The idealized reference's results at each row and column. -/
module
public import proofs.«01_k».proof.Proof.Ref
public import proofs.«01_k».proof.Proof.Spec
public import Idealize.ShloMosaic.Lib.Pointwise

@[expose] public section

set_option maxRecDepth 16384

noncomputable section

namespace Cert.ReferenceIdeal.Arr

open Cert.ReferenceIdeal Cert.ReferenceIdeal.Gen Idealize.ShloMosaic Idealize.ShloMosaic.TcCoe Idealize.SL.Sem

set_option maxHeartbeats 1000000

variable (x : FVec Ideal S4x4096x2048 .f32) (w : FVec Ideal S2048x8192 .f32)

/-- The first argument by batch, row and feature. -/
def act (x : FVec Ideal S4x4096x2048 .f32) : Spec.Act := fun b s d => x (ix3 b s d)

/-- The second argument by feature and column. -/
def wgt (w : FVec Ideal S2048x8192 .f32) : Spec.Wgt := fun d n => w (ix2 d n)

/-- The matrix product at a point. -/
theorem rGU_at (b : Fin 4) (s : Fin 4096) (n : Fin 8192) : rGU x w (ix3 b s n) = Spec.gu (act x) (wgt w) b s n := by
  pointwise [rGU]
  simp only [Spec.gu, act, wgt]

/-- The gated product at a point. -/
theorem rH_at (b : Fin 4) (s : Fin 4096) (n : Fin 4096) : rH x w (ix3 b s n) = Spec.hh (act x) (wgt w) b s n := by
  pointwise [rH, rG, rU]
  rw [rGU_at, rGU_at]
  simp only [Spec.hh, Spec.gated]

/-- A row maximum at a point. -/
theorem rMax_top (h : FVec Ideal S4x4096x4096 .f32) (b : Fin 4) (s : Fin 4096) (n : Fin 1) :
    rMax h (ix3 b s n) = Spec.top fun k => Spec.mag (h (ix3 b s k)) := by
  pointwise [rMax]
  simp only [Spec.top, Spec.mag]

/-- The row maxima of the gated product. -/
theorem rMax_at (b : Fin 4) (s : Fin 4096) (n : Fin 1) : rMax (rH x w) (ix3 b s n) = Spec.mx (act x) (wgt w) b s := by
  rw [rMax_top]
  simp only [rH_at]
  unfold Spec.mx
  rfl

/-- A quotient at a point. -/
theorem rT_quo (a : FVec Ideal S4x4096x1 .f32) (b : Fin 4) (s : Fin 4096) (n : Fin 1) : rT a (ix3 b s n) = Spec.quo (a (ix3 b s n)) := by
  pointwise [rT]
  simp only [Spec.quo]

/-- The quotients of the row maxima. -/
theorem rT_at (b : Fin 4) (s : Fin 4096) (n : Fin 1) : rT (rMax (rH x w)) (ix3 b s n) = Spec.quo (Spec.mx (act x) (wgt w) b s) := by
  rw [rT_quo, rMax_at]

/-- The count of the powers reached, at a point. -/
theorem rCount_at (t : FVec Ideal S4x4096x1 .f32) (b : Fin 4) (s : Fin 4096) (n : Fin 1) :
    rCount t (ix3 b s n) = Finset.univ.fold IntOp.addi 0#32 (Ladder.rOne (t (ix3 b s n))) := by
  obtain rfl : n = 0 := Subsingleton.elim _ _
  pointwise [rCount, rPow]
  unfold Ladder.rOne Ladder.rPow Ideal.cmp
  rfl

/-- The exponent at a point. -/
theorem rE_at (t : FVec Ideal S4x4096x1 .f32) (b : Fin 4) (s : Fin 4096) (n : Fin 1) :
    rE t (ix3 b s n) = Ladder.rExp (t (ix3 b s n)) := by
  pointwise [rE]
  rw [rCount_at]
  simp only [Ladder.rExp, Ladder.rES, Ideal.cmp]

/-- A power of two at a point. -/
theorem rLd_at (e : Vec Ideal S4x4096x1 .i32) (b : Fin 4) (s : Fin 4096) (n : Fin 1) :
    rLd e (ix3 b s n) = Ladder.rLdS (e (ix3 b s n)) := by
  pointwise [rLd]
  simp only [Ladder.rLdS, Ladder.rPow, Ladder.zero_eq]
  rfl

/-- A negated exponent at a point. -/
theorem negi_at (e : Vec Ideal S4x4096x1 .i32) (b : Fin 4) (s : Fin 4096) (n : Fin 1) :
    (negi e : Vec Ideal S4x4096x1 .i32) (ix3 b s n) = Ladder.ng (e (ix3 b s n)) := rfl

/-- One number per row, from batch and row to one row number. -/
theorem row_at (v : FVec Ideal S4x4096x1 .f32) (r : Fin 16384) (n : Fin 1) :
    (shapeCast S16384x1 v shapeCasts_S4x4096x1_S16384x1) (ix2 r n) = v (ix3 ⟨r.val / 4096, by omega⟩ ⟨r.val % 4096, by omega⟩ 0) := by
  pointwise

/-- The clipped products likewise. -/
theorem clip_at (h : FVec Ideal S4x4096x4096 .f32) (i : FVec Ideal S4x4096x1 .f32) (r : Fin 16384) (k : Fin 4096) :
    (shapeCast S16384x4096 (rClip h i) shapeCasts_S4x4096x4096_S16384x4096) (ix2 r k)
      = Spec.clip (h (ix3 ⟨r.val / 4096, by omega⟩ ⟨r.val % 4096, by omega⟩ k)) (i (ix3 ⟨r.val / 4096, by omega⟩ ⟨r.val % 4096, by omega⟩ 0)) := by
  pointwise [rClip]
  simp only [Spec.clip]

/-- The first result: the row maxima. -/
theorem ref0_at (r : Fin 16384) (n : Fin 1) :
    ref0 x w (ix2 r n) = Spec.mx (act x) (wgt w) ⟨r.val / 4096, by omega⟩ ⟨r.val % 4096, by omega⟩ := by
  unfold ref0
  rw [row_at, rMax_at]

/-- The third result: the scales. -/
theorem ref2_at (r : Fin 16384) (n : Fin 1) :
    ref2 x w (ix2 r n) = Ladder.rLdS (Ladder.rExp (Spec.quo (Spec.mx (act x) (wgt w) ⟨r.val / 4096, by omega⟩ ⟨r.val % 4096, by omega⟩))) := by
  unfold ref2
  rw [row_at, rLd_at, rE_at, rT_at]

/-- The second result before its conversion: the clipped products. -/
theorem ref1_at (r : Fin 16384) (k : Fin 4096) :
    ref1 x w (ix2 r k) = Spec.clip (Spec.hh (act x) (wgt w) ⟨r.val / 4096, by omega⟩ ⟨r.val % 4096, by omega⟩ k)
      (Ladder.rLdS (Ladder.ng (Ladder.rExp (Spec.quo (Spec.mx (act x) (wgt w) ⟨r.val / 4096, by omega⟩ ⟨r.val % 4096, by omega⟩))))) := by
  unfold ref1
  rw [clip_at, rLd_at, negi_at, rE_at, rT_at, rH_at]

end Cert.ReferenceIdeal.Arr

end
-- ==== Proof.RefArr.lean ====
/- The idealized reference's results after its run. -/
module
public import proofs.«01_k».proof.Proof.RefVal
public import Idealize.ShloMosaic.Lib.Quiescent

@[expose] public section

set_option maxRecDepth 16384

noncomputable section

namespace Cert.ReferenceIdeal.Arr

open Cert.ReferenceIdeal Cert.ReferenceIdeal.Gen Idealize.ShloMosaic Idealize.ShloMosaic.TcCoe Idealize.SL.Sem

set_option maxHeartbeats 1000000

variable (m : (ℓ : Loc nD τ sig) → Buf (Elt Ideal) ℓ) (ρ : Dev nD → PrngReg)

/-- The run leaves the three results at their terms and the arguments as they were. -/
theorem run : θ_run defs (onTc (τ := τ) (main (F := Ideal))) ⟨m, fun _ => 0, ρ⟩ (fun r => ∀ c : Dev nD,
      r.2.mem ((c.tc : Thread nD τ).loc main_v55) = ref0 (m ((c : Thread nD τ).loc main_arg0)) (m ((c : Thread nD τ).loc main_arg1))
      ∧ r.2.mem ((c.tc : Thread nD τ).loc main_v58) = ref1 (m ((c : Thread nD τ).loc main_arg0)) (m ((c : Thread nD τ).loc main_arg1))
      ∧ r.2.mem ((c.tc : Thread nD τ).loc main_v57) = ref2 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1,
      (h c).2.1.trans ((res1 m c).trans (conv_fp8 (ref1 (m ((c : Thread nD τ).loc main_arg0)) (m ((c : Thread nD τ).loc main_arg1))))),
      (h c).2.2.1.trans (res2 m c), (h c).2.2.2.1, (h c).2.2.2.2⟩)
    (Value.run m ρ)

/-- The run leaves the arguments as they were and every counter at zero (the program has no semaphore). -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2.2, sem_eq_zero_of_no_sems rfl r.2⟩) (run m ρ)

end Cert.ReferenceIdeal.Arr

end
-- ==== Proof.Equal.lean ====
/- The two programs' results are equal. -/
module
public import proofs.«01_k».proof.Proof.KArr
public import proofs.«01_k».proof.Proof.RefVal

@[expose] public section

set_option maxRecDepth 16384

noncomputable section

namespace Cert.Equal

open Idealize.ShloMosaic Idealize.ShloMosaic.TcCoe Idealize.SL.Sem
open Cert.KernelIdeal.Body Cert.ReferenceIdeal.Arr

variable (m : (ℓ : Loc Cert.KernelIdeal.nD Cert.KernelIdeal.τ Cert.KernelIdeal.sig) → Buf (Elt Ideal) ℓ) (c : Dev Cert.KernelIdeal.nD)

/-- The kernel's first argument as the reference reads it. -/
def xOf : FVec Ideal Cert.ReferenceIdeal.S4x4096x2048 .f32 := m ((c : Thread Cert.KernelIdeal.nD Cert.KernelIdeal.τ).loc Cert.KernelIdeal.main_arg0)

/-- The kernel's second argument likewise. -/
def wOf : FVec Ideal Cert.ReferenceIdeal.S2048x8192 .f32 := m ((c : Thread Cert.KernelIdeal.nD Cert.KernelIdeal.τ).loc Cert.KernelIdeal.main_arg1)

theorem act_eq : Cert.ReferenceIdeal.Arr.act (xOf m c) = Cert.KernelIdeal.Body.act m c := rfl
theorem wgt_eq : Cert.ReferenceIdeal.Arr.wgt (wOf m c) = Cert.KernelIdeal.Body.wgt m c := rfl

/-- The row maxima are equal. -/
theorem eq0 : ref0 (xOf m c) (wOf m c) = arr3 m c := by
  funext y
  refine (congrArg (ref0 (xOf m c) (wOf m c)) (ix2_eta y).symm).trans ((ref0_at (xOf m c) (wOf m c) (y 0) (y 1)).trans ?_)
  rw [act_eq, wgt_eq]
  unfold arr3 rowMax
  rfl

/-- The scales are equal: the exponent found bit by bit gives the scale the counted exponent gives. -/
theorem eq2 : ref2 (xOf m c) (wOf m c) = arr5 m c := by
  funext y
  refine (congrArg (ref2 (xOf m c) (wOf m c)) (ix2_eta y).symm).trans ((ref2_at (xOf m c) (wOf m c) (y 0) (y 1)).trans ?_)
  rw [act_eq, wgt_eq, ← Ladder.scale_eq]
  unfold arr5 rowMax
  rfl

/-- The codes are equal. -/
theorem eq1 : ref1 (xOf m c) (wOf m c) = arr4 m c := by
  funext y
  refine (congrArg (ref1 (xOf m c) (wOf m c)) (ix2_eta y).symm).trans ((ref1_at (xOf m c) (wOf m c) (y 0) (y 1)).trans ?_)
  rw [act_eq, wgt_eq, ← Ladder.inv_eq]
  unfold arr4 rowH rowMax
  rfl

end Cert.Equal

end
-- ==== Proof.lean ====
module

public import proofs.«01_k».proof.Proof.Gen.ReferenceIdeal.Run
public import proofs.«01_k».proof.Proof.Data
public import proofs.«01_k».proof.Proof.BitsData
public import proofs.«01_k».proof.Proof.KArr
public import proofs.«01_k».proof.Proof.RefArr
public import proofs.«01_k».proof.Proof.Equal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The idealized kernel ends with its three results at their arrays and its arguments as they were. -/
theorem kernel_values (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v2_0) = Cert.KernelIdeal.Body.arr3 m c
      ∧ r.2.mem ((c.tc : Thread Cert.KernelIdeal.nD Cert.KernelIdeal.τ).loc Cert.KernelIdeal.main_v2_1) = Cert.KernelIdeal.Body.arr4 m c
      ∧ r.2.mem ((c.tc : Thread Cert.KernelIdeal.nD Cert.KernelIdeal.τ).loc Cert.KernelIdeal.main_v2_2) = Cert.KernelIdeal.Body.arr5 m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run _ _ _).mono (fun r h c => ⟨((h.1 c).1 3).trans (Cert.KernelIdeal.Body.final3 m c), ((h.1 c).1 4).trans (Cert.KernelIdeal.Body.final4 m c),
      ((h.1 c).1 5).trans (Cert.KernelIdeal.Body.final5 m c), (h.2.1 c).1, (h.2.1 c).2⟩)
    (θ_run_and (Cert.KernelIdeal.Body.run_main m g) (Cert.KernelIdeal.Body.frame m g))

/-- The idealized kernel and the idealized reference end with equal results. -/
theorem algebraic : algebraic_KernelIdeal_ReferenceIdeal (hKernelIdeal := Cert.KernelIdeal.Gen.facts) (hReferenceIdeal := Cert.ReferenceIdeal.Gen.facts) := by
  intro m g m' g' _ hag
  refine ⟨fun c => Cert.KernelIdeal.Body.arr3 m c, fun c => Cert.KernelIdeal.Body.arr4 m c, fun c => Cert.KernelIdeal.Body.arr5 m c,
    kernel_values m g, (θ_run _ _ _).mono (fun r h c => ?_) (Cert.ReferenceIdeal.Arr.run m' g')⟩
  obtain ⟨h0, h1, h2, h3, h4⟩ := h c
  obtain ⟨a0, a1⟩ := hag c
  exact ⟨h0.trans ((congrArg₂ Cert.ReferenceIdeal.Arr.ref0 a0 a1).trans (Cert.Equal.eq0 m c)),
    h1.trans ((congrArg₂ Cert.ReferenceIdeal.Arr.ref1 a0 a1).trans (Cert.Equal.eq1 m c)),
    h2.trans ((congrArg₂ Cert.ReferenceIdeal.Arr.ref2 a0 a1).trans (Cert.Equal.eq2 m c)), h3, h4⟩

/-- Every claim of the certificate. -/
theorem claim : Cert.Claim := ⟨Cert.Kernel.Gen.facts, Cert.KernelIdeal.Gen.facts, Cert.ReferenceIdeal.Gen.facts,
  fun m ρ _ => Cert.Kernel.Body.frame m ρ, fun m ρ _ => Cert.KernelIdeal.Body.frame m ρ, fun m ρ _ => Cert.ReferenceIdeal.Arr.frame m ρ,
  trivial, algebraic⟩

end Cert.Proof

end
